-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def preserves_Kernel_KernelIdeal : Prop :=
  IdealRules.named_const.Statement Cert.KernelIdeal.κ "mean" .f32 0x3C10FDBC#32 ((113⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v372)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v372) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v472) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x4x128 : Shape := ⟨3, ![10000, 4, 128]⟩
abbrev S2x160000 : Shape := ⟨2, ![2, 160000]⟩
abbrev S160000 : Shape := ⟨1, ![160000]⟩
abbrev S64x4x16 : Shape := ⟨3, ![64, 4, 16]⟩
abbrev S64 : Shape := ⟨1, ![64]⟩
abbrev S1x64 : Shape := ⟨2, ![1, 64]⟩
abbrev S4x64x64 : Shape := ⟨3, ![4, 64, 64]⟩
abbrev S4x64 : Shape := ⟨2, ![4, 64]⟩
abbrev S192x64 : Shape := ⟨2, ![192, 64]⟩
abbrev S64x1 : Shape := ⟨2, ![64, 1]⟩
abbrev S1 : Shape := ⟨1, ![1]⟩
abbrev S1x160000 : Shape := ⟨2, ![1, 160000]⟩
abbrev S_ : Shape := ⟨0, ![]⟩
abbrev S10240x4x128 : Shape := ⟨3, ![10240, 4, 128]⟩
abbrev S64x64 : Shape := ⟨2, ![64, 64]⟩
abbrev S10240x64 : Shape := ⟨2, ![10240, 64]⟩
abbrev S128x4x128 : Shape := ⟨3, ![128, 4, 128]⟩
abbrev S128x64 : Shape := ⟨2, ![128, 64]⟩
abbrev S128x1x128 : Shape := ⟨3, ![128, 1, 128]⟩
abbrev S128x128 : Shape := ⟨2, ![128, 128]⟩
abbrev S128x127 : Shape := ⟨2, ![128, 127]⟩
abbrev S128x1 : Shape := ⟨2, ![128, 1]⟩
abbrev S128x126 : Shape := ⟨2, ![128, 126]⟩
abbrev S128x2 : Shape := ⟨2, ![128, 2]⟩
abbrev S128x125 : Shape := ⟨2, ![128, 125]⟩
abbrev S128x3 : Shape := ⟨2, ![128, 3]⟩
abbrev S128x124 : Shape := ⟨2, ![128, 124]⟩
abbrev S128x4 : Shape := ⟨2, ![128, 4]⟩
abbrev S128x123 : Shape := ⟨2, ![128, 123]⟩
abbrev S128x5 : Shape := ⟨2, ![128, 5]⟩
abbrev S128x122 : Shape := ⟨2, ![128, 122]⟩
abbrev S128x6 : Shape := ⟨2, ![128, 6]⟩
abbrev S128x121 : Shape := ⟨2, ![128, 121]⟩
abbrev S128x7 : Shape := ⟨2, ![128, 7]⟩
abbrev S128x120 : Shape := ⟨2, ![128, 120]⟩
abbrev S128x8 : Shape := ⟨2, ![128, 8]⟩
abbrev S128x119 : Shape := ⟨2, ![128, 119]⟩
abbrev S128x9 : Shape := ⟨2, ![128, 9]⟩
abbrev S128x118 : Shape := ⟨2, ![128, 118]⟩
abbrev S128x10 : Shape := ⟨2, ![128, 10]⟩
abbrev S128x117 : Shape := ⟨2, ![128, 117]⟩
abbrev S128x11 : Shape := ⟨2, ![128, 11]⟩
abbrev S128x116 : Shape := ⟨2, ![128, 116]⟩
abbrev S128x12 : Shape := ⟨2, ![128, 12]⟩
abbrev S128x115 : Shape := ⟨2, ![128, 115]⟩
abbrev S128x13 : Shape := ⟨2, ![128, 13]⟩
abbrev S128x114 : Shape := ⟨2, ![128, 114]⟩
abbrev S128x14 : Shape := ⟨2, ![128, 14]⟩
abbrev S128x113 : Shape := ⟨2, ![128, 113]⟩
abbrev S128x15 : Shape := ⟨2, ![128, 15]⟩
abbrev S1x128x128 : Shape := ⟨3, ![1, 128, 128]⟩
abbrev S64x128x128 : Shape := ⟨3, ![64, 128, 128]⟩
abbrev S64x16384 : Shape := ⟨2, ![64, 16384]⟩
abbrev S1x16384 : Shape := ⟨2, ![1, 16384]⟩
abbrev S64x128 : Shape := ⟨2, ![64, 128]⟩
abbrev S10000x64 : Shape := ⟨2, ![10000, 64]⟩
abbrev S160000x1 : Shape := ⟨2, ![160000, 1]⟩
abbrev S160000x64 : Shape := ⟨2, ![160000, 64]⟩
abbrev S1x64x64 : Shape := ⟨3, ![1, 64, 64]⟩
abbrev S160000x192 : Shape := ⟨2, ![160000, 192]⟩
abbrev S1x1 : Shape := ⟨2, ![1, 1]⟩

abbrev nBuf : Space → Nat
  | .hbm => 463
  | .vmem => 6
  | .smem => 0
  | _ => 0

abbrev hbmTy0_0 (i : Nat) : BufTy := match i % 128 with
  | 0 => ⟨S10000x4x128, .f32⟩
  | 1 => ⟨S2x160000, .i32⟩
  | 2 => ⟨S160000, .f32⟩
  | 3 => ⟨S160000, .f32⟩
  | 4 => ⟨S64x4x16, .f32⟩
  | 5 => ⟨S64, .f32⟩
  | 6 => ⟨S1x64, .f32⟩
  | 7 => ⟨S64, .f32⟩
  | 8 => ⟨S4x64x64, .f32⟩
  | 9 => ⟨S4x64, .f32⟩
  | 10 => ⟨S4x64x64, .f32⟩
  | 11 => ⟨S4x64, .f32⟩
  | 12 => ⟨S4x64x64, .f32⟩
  | 13 => ⟨S4x64, .f32⟩
  | 14 => ⟨S4x64x64, .f32⟩
  | 15 => ⟨S4x64, .f32⟩
  | 16 => ⟨S4x64x64, .f32⟩
  | 17 => ⟨S4x64, .f32⟩
  | 18 => ⟨S192x64, .f32⟩
  | 19 => ⟨S64, .f32⟩
  | 20 => ⟨S64x1, .f32⟩
  | 21 => ⟨S1, .f32⟩
  | 22 => ⟨S1x160000, .i32⟩
  | 23 => ⟨S160000, .i32⟩
  | 24 => ⟨S1x160000, .i32⟩
  | 25 => ⟨S160000, .i32⟩
  | 26 => ⟨S_, .i32⟩
  | 27 => ⟨S_, .f32⟩
  | 28 => ⟨S10240x4x128, .f32⟩
  | 29 => ⟨S64x64, .f32⟩
  | 30 => ⟨S10240x64, .f32⟩
  | 31 => ⟨S10000x64, .f32⟩
  | 32 => ⟨S160000x1, .f32⟩
  | 33 => ⟨S160000x64, .f32⟩
  | 34 => ⟨S1x64, .f32⟩
  | 35 => ⟨S160000x64, .f32⟩
  | 36 => ⟨S160000x64, .f32⟩
  | 37 => ⟨S1x64x64, .f32⟩
  | 38 => ⟨S64x64, .f32⟩
  | 39 => ⟨S10000x64, .f32⟩
  | 40 => ⟨S1x64, .f32⟩
  | 41 => ⟨S64, .f32⟩
  | 42 => ⟨S1x64, .f32⟩
  | 43 => ⟨S10000x64, .f32⟩
  | 44 => ⟨S10000x64, .f32⟩
  | 45 => ⟨S1x64x64, .f32⟩
  | 46 => ⟨S64x64, .f32⟩
  | 47 => ⟨S10000x64, .f32⟩
  | 48 => ⟨S1x64, .f32⟩
  | 49 => ⟨S64, .f32⟩
  | 50 => ⟨S1x64, .f32⟩
  | 51 => ⟨S10000x64, .f32⟩
  | 52 => ⟨S10000x64, .f32⟩
  | 53 => ⟨S1x64x64, .f32⟩
  | 54 => ⟨S64x64, .f32⟩
  | 55 => ⟨S10000x64, .f32⟩
  | 56 => ⟨S1x64, .f32⟩
  | 57 => ⟨S64, .f32⟩
  | 58 => ⟨S1x64, .f32⟩
  | 59 => ⟨S10000x64, .f32⟩
  | 60 => ⟨S10000x64, .f32⟩
  | 61 => ⟨S_, .i32⟩
  | 62 => ⟨S160000, .i32⟩
  | 63 => ⟨S160000, .i1⟩
  | 64 => ⟨S_, .i32⟩
  | 65 => ⟨S160000, .i32⟩
  | 66 => ⟨S160000, .i32⟩
  | 67 => ⟨S160000, .i32⟩
  | 68 => ⟨S160000x1, .i32⟩
  | 69 => ⟨S160000x64, .f32⟩
  | 70 => ⟨S_, .i32⟩
  | 71 => ⟨S160000, .i32⟩
  | 72 => ⟨S160000, .i1⟩
  | 73 => ⟨S_, .i32⟩
  | 74 => ⟨S160000, .i32⟩
  | 75 => ⟨S160000, .i32⟩
  | 76 => ⟨S160000, .i32⟩
  | 77 => ⟨S160000x1, .i32⟩
  | 78 => ⟨S160000x64, .f32⟩
  | 79 => ⟨S160000x64, .f32⟩
  | 80 => ⟨S1x64x64, .f32⟩
  | 81 => ⟨S64x64, .f32⟩
  | 82 => ⟨S160000x64, .f32⟩
  | 83 => ⟨S160000x64, .f32⟩
  | 84 => ⟨S1x64, .f32⟩
  | 85 => ⟨S64, .f32⟩
  | 86 => ⟨S1x64, .f32⟩
  | 87 => ⟨S160000x64, .f32⟩
  | 88 => ⟨S160000x64, .f32⟩
  | 89 => ⟨S160000x64, .f32⟩
  | 90 => ⟨S160000x64, .f32⟩
  | 91 => ⟨S_, .f32⟩
  | 92 => ⟨S160000x64, .f32⟩
  | 93 => ⟨S160000x64, .f32⟩
  | 94 => ⟨S_, .f32⟩
  | 95 => ⟨S160000x64, .f32⟩
  | 96 => ⟨S160000x64, .f32⟩
  | 97 => ⟨S_, .i32⟩
  | 98 => ⟨S160000, .i32⟩
  | 99 => ⟨S160000, .i1⟩
  | 100 => ⟨S_, .i32⟩
  | 101 => ⟨S160000, .i32⟩
  | 102 => ⟨S160000, .i32⟩
  | 103 => ⟨S160000, .i32⟩
  | 104 => ⟨S160000x1, .i32⟩
  | 105 => ⟨S160000x64, .f32⟩
  | 106 => ⟨S160000x64, .f32⟩
  | 107 => ⟨S_, .f32⟩
  | 108 => ⟨S10000x64, .f32⟩
  | 109 => ⟨S160000x1, .i32⟩
  | 110 => ⟨S10000x64, .f32⟩
  | 111 => ⟨S_, .f32⟩
  | 112 => ⟨S10000x64, .f32⟩
  | 113 => ⟨S160000x1, .i32⟩
  | 114 => ⟨S10000x64, .f32⟩
  | 115 => ⟨S1x64x64, .f32⟩
  | 116 => ⟨S64x64, .f32⟩
  | 117 => ⟨S10000x64, .f32⟩
  | 118 => ⟨S1x64, .f32⟩
  | 119 => ⟨S64, .f32⟩
  | 120 => ⟨S1x64, .f32⟩
  | 121 => ⟨S10000x64, .f32⟩
  | 122 => ⟨S10000x64, .f32⟩
  | 123 => ⟨S_, .f32⟩
  | 124 => ⟨S10000x64, .f32⟩
  | 125 => ⟨S10000x64, .f32⟩
  | 126 => ⟨S10000x64, .f32⟩
  | 127 => ⟨S10000x64, .f32⟩
  | _ => ⟨S10000x4x128, .f32⟩

abbrev hbmTy0_1 (i : Nat) : BufTy := match i % 128 with
  | 0 => ⟨S_, .f32⟩
  | 1 => ⟨S10000x64, .f32⟩
  | 2 => ⟨S10000x64, .f32⟩
  | 3 => ⟨S10000x64, .f32⟩
  | 4 => ⟨S_, .f32⟩
  | 5 => ⟨S160000x64, .f32⟩
  | 6 => ⟨S160000x64, .f32⟩
  | 7 => ⟨S160000x64, .f32⟩
  | 8 => ⟨S1x64x64, .f32⟩
  | 9 => ⟨S64x64, .f32⟩
  | 10 => ⟨S10000x64, .f32⟩
  | 11 => ⟨S1x64, .f32⟩
  | 12 => ⟨S64, .f32⟩
  | 13 => ⟨S1x64, .f32⟩
  | 14 => ⟨S10000x64, .f32⟩
  | 15 => ⟨S10000x64, .f32⟩
  | 16 => ⟨S1x64x64, .f32⟩
  | 17 => ⟨S64x64, .f32⟩
  | 18 => ⟨S10000x64, .f32⟩
  | 19 => ⟨S1x64, .f32⟩
  | 20 => ⟨S64, .f32⟩
  | 21 => ⟨S1x64, .f32⟩
  | 22 => ⟨S10000x64, .f32⟩
  | 23 => ⟨S10000x64, .f32⟩
  | 24 => ⟨S1x64x64, .f32⟩
  | 25 => ⟨S64x64, .f32⟩
  | 26 => ⟨S10000x64, .f32⟩
  | 27 => ⟨S1x64, .f32⟩
  | 28 => ⟨S64, .f32⟩
  | 29 => ⟨S1x64, .f32⟩
  | 30 => ⟨S10000x64, .f32⟩
  | 31 => ⟨S10000x64, .f32⟩
  | 32 => ⟨S_, .i32⟩
  | 33 => ⟨S160000, .i32⟩
  | 34 => ⟨S160000, .i1⟩
  | 35 => ⟨S_, .i32⟩
  | 36 => ⟨S160000, .i32⟩
  | 37 => ⟨S160000, .i32⟩
  | 38 => ⟨S160000, .i32⟩
  | 39 => ⟨S160000x1, .i32⟩
  | 40 => ⟨S160000x64, .f32⟩
  | 41 => ⟨S_, .i32⟩
  | 42 => ⟨S160000, .i32⟩
  | 43 => ⟨S160000, .i1⟩
  | 44 => ⟨S_, .i32⟩
  | 45 => ⟨S160000, .i32⟩
  | 46 => ⟨S160000, .i32⟩
  | 47 => ⟨S160000, .i32⟩
  | 48 => ⟨S160000x1, .i32⟩
  | 49 => ⟨S160000x64, .f32⟩
  | 50 => ⟨S160000x64, .f32⟩
  | 51 => ⟨S1x64x64, .f32⟩
  | 52 => ⟨S64x64, .f32⟩
  | 53 => ⟨S160000x64, .f32⟩
  | 54 => ⟨S160000x64, .f32⟩
  | 55 => ⟨S1x64, .f32⟩
  | 56 => ⟨S64, .f32⟩
  | 57 => ⟨S1x64, .f32⟩
  | 58 => ⟨S160000x64, .f32⟩
  | 59 => ⟨S160000x64, .f32⟩
  | 60 => ⟨S160000x64, .f32⟩
  | 61 => ⟨S160000x64, .f32⟩
  | 62 => ⟨S_, .f32⟩
  | 63 => ⟨S160000x64, .f32⟩
  | 64 => ⟨S160000x64, .f32⟩
  | 65 => ⟨S_, .f32⟩
  | 66 => ⟨S160000x64, .f32⟩
  | 67 => ⟨S160000x64, .f32⟩
  | 68 => ⟨S_, .i32⟩
  | 69 => ⟨S160000, .i32⟩
  | 70 => ⟨S160000, .i1⟩
  | 71 => ⟨S_, .i32⟩
  | 72 => ⟨S160000, .i32⟩
  | 73 => ⟨S160000, .i32⟩
  | 74 => ⟨S160000, .i32⟩
  | 75 => ⟨S160000x1, .i32⟩
  | 76 => ⟨S160000x64, .f32⟩
  | 77 => ⟨S160000x64, .f32⟩
  | 78 => ⟨S_, .f32⟩
  | 79 => ⟨S10000x64, .f32⟩
  | 80 => ⟨S160000x1, .i32⟩
  | 81 => ⟨S10000x64, .f32⟩
  | 82 => ⟨S_, .f32⟩
  | 83 => ⟨S10000x64, .f32⟩
  | 84 => ⟨S160000x1, .i32⟩
  | 85 => ⟨S10000x64, .f32⟩
  | 86 => ⟨S1x64x64, .f32⟩
  | 87 => ⟨S64x64, .f32⟩
  | 88 => ⟨S10000x64, .f32⟩
  | 89 => ⟨S1x64, .f32⟩
  | 90 => ⟨S64, .f32⟩
  | 91 => ⟨S1x64, .f32⟩
  | 92 => ⟨S10000x64, .f32⟩
  | 93 => ⟨S10000x64, .f32⟩
  | 94 => ⟨S_, .f32⟩
  | 95 => ⟨S10000x64, .f32⟩
  | 96 => ⟨S10000x64, .f32⟩
  | 97 => ⟨S10000x64, .f32⟩
  | 98 => ⟨S10000x64, .f32⟩
  | 99 => ⟨S_, .f32⟩
  | 100 => ⟨S10000x64, .f32⟩
  | 101 => ⟨S10000x64, .f32⟩
  | 102 => ⟨S10000x64, .f32⟩
  | 103 => ⟨S_, .f32⟩
  | 104 => ⟨S160000x64, .f32⟩
  | 105 => ⟨S160000x64, .f32⟩
  | 106 => ⟨S160000x64, .f32⟩
  | 107 => ⟨S1x64x64, .f32⟩
  | 108 => ⟨S64x64, .f32⟩
  | 109 => ⟨S10000x64, .f32⟩
  | 110 => ⟨S1x64, .f32⟩
  | 111 => ⟨S64, .f32⟩
  | 112 => ⟨S1x64, .f32⟩
  | 113 => ⟨S10000x64, .f32⟩
  | 114 => ⟨S10000x64, .f32⟩
  | 115 => ⟨S1x64x64, .f32⟩
  | 116 => ⟨S64x64, .f32⟩
  | 117 => ⟨S10000x64, .f32⟩
  | 118 => ⟨S1x64, .f32⟩
  | 119 => ⟨S64, .f32⟩
  | 120 => ⟨S1x64, .f32⟩
  | 121 => ⟨S10000x64, .f32⟩
  | 122 => ⟨S10000x64, .f32⟩
  | 123 => ⟨S1x64x64, .f32⟩
  | 124 => ⟨S64x64, .f32⟩
  | 125 => ⟨S10000x64, .f32⟩
  | 126 => ⟨S1x64, .f32⟩
  | 127 => ⟨S64, .f32⟩
  | _ => ⟨S10000x4x128, .f32⟩

abbrev hbmTy0_2 (i : Nat) : BufTy := match i % 128 with
  | 0 => ⟨S1x64, .f32⟩
  | 1 => ⟨S10000x64, .f32⟩
  | 2 => ⟨S10000x64, .f32⟩
  | 3 => ⟨S_, .i32⟩
  | 4 => ⟨S160000, .i32⟩
  | 5 => ⟨S160000, .i1⟩
  | 6 => ⟨S_, .i32⟩
  | 7 => ⟨S160000, .i32⟩
  | 8 => ⟨S160000, .i32⟩
  | 9 => ⟨S160000, .i32⟩
  | 10 => ⟨S160000x1, .i32⟩
  | 11 => ⟨S160000x64, .f32⟩
  | 12 => ⟨S_, .i32⟩
  | 13 => ⟨S160000, .i32⟩
  | 14 => ⟨S160000, .i1⟩
  | 15 => ⟨S_, .i32⟩
  | 16 => ⟨S160000, .i32⟩
  | 17 => ⟨S160000, .i32⟩
  | 18 => ⟨S160000, .i32⟩
  | 19 => ⟨S160000x1, .i32⟩
  | 20 => ⟨S160000x64, .f32⟩
  | 21 => ⟨S160000x64, .f32⟩
  | 22 => ⟨S1x64x64, .f32⟩
  | 23 => ⟨S64x64, .f32⟩
  | 24 => ⟨S160000x64, .f32⟩
  | 25 => ⟨S160000x64, .f32⟩
  | 26 => ⟨S1x64, .f32⟩
  | 27 => ⟨S64, .f32⟩
  | 28 => ⟨S1x64, .f32⟩
  | 29 => ⟨S160000x64, .f32⟩
  | 30 => ⟨S160000x64, .f32⟩
  | 31 => ⟨S160000x64, .f32⟩
  | 32 => ⟨S160000x64, .f32⟩
  | 33 => ⟨S_, .f32⟩
  | 34 => ⟨S160000x64, .f32⟩
  | 35 => ⟨S160000x64, .f32⟩
  | 36 => ⟨S_, .f32⟩
  | 37 => ⟨S160000x64, .f32⟩
  | 38 => ⟨S160000x64, .f32⟩
  | 39 => ⟨S_, .i32⟩
  | 40 => ⟨S160000, .i32⟩
  | 41 => ⟨S160000, .i1⟩
  | 42 => ⟨S_, .i32⟩
  | 43 => ⟨S160000, .i32⟩
  | 44 => ⟨S160000, .i32⟩
  | 45 => ⟨S160000, .i32⟩
  | 46 => ⟨S160000x1, .i32⟩
  | 47 => ⟨S160000x64, .f32⟩
  | 48 => ⟨S160000x64, .f32⟩
  | 49 => ⟨S_, .f32⟩
  | 50 => ⟨S10000x64, .f32⟩
  | 51 => ⟨S160000x1, .i32⟩
  | 52 => ⟨S10000x64, .f32⟩
  | 53 => ⟨S_, .f32⟩
  | 54 => ⟨S10000x64, .f32⟩
  | 55 => ⟨S160000x1, .i32⟩
  | 56 => ⟨S10000x64, .f32⟩
  | 57 => ⟨S1x64x64, .f32⟩
  | 58 => ⟨S64x64, .f32⟩
  | 59 => ⟨S10000x64, .f32⟩
  | 60 => ⟨S1x64, .f32⟩
  | 61 => ⟨S64, .f32⟩
  | 62 => ⟨S1x64, .f32⟩
  | 63 => ⟨S10000x64, .f32⟩
  | 64 => ⟨S10000x64, .f32⟩
  | 65 => ⟨S_, .f32⟩
  | 66 => ⟨S10000x64, .f32⟩
  | 67 => ⟨S10000x64, .f32⟩
  | 68 => ⟨S10000x64, .f32⟩
  | 69 => ⟨S10000x64, .f32⟩
  | 70 => ⟨S_, .f32⟩
  | 71 => ⟨S10000x64, .f32⟩
  | 72 => ⟨S10000x64, .f32⟩
  | 73 => ⟨S10000x64, .f32⟩
  | 74 => ⟨S_, .f32⟩
  | 75 => ⟨S160000x64, .f32⟩
  | 76 => ⟨S160000x64, .f32⟩
  | 77 => ⟨S160000x64, .f32⟩
  | 78 => ⟨S1x64x64, .f32⟩
  | 79 => ⟨S64x64, .f32⟩
  | 80 => ⟨S10000x64, .f32⟩
  | 81 => ⟨S1x64, .f32⟩
  | 82 => ⟨S64, .f32⟩
  | 83 => ⟨S1x64, .f32⟩
  | 84 => ⟨S10000x64, .f32⟩
  | 85 => ⟨S10000x64, .f32⟩
  | 86 => ⟨S1x64x64, .f32⟩
  | 87 => ⟨S64x64, .f32⟩
  | 88 => ⟨S10000x64, .f32⟩
  | 89 => ⟨S1x64, .f32⟩
  | 90 => ⟨S64, .f32⟩
  | 91 => ⟨S1x64, .f32⟩
  | 92 => ⟨S10000x64, .f32⟩
  | 93 => ⟨S10000x64, .f32⟩
  | 94 => ⟨S1x64x64, .f32⟩
  | 95 => ⟨S64x64, .f32⟩
  | 96 => ⟨S10000x64, .f32⟩
  | 97 => ⟨S1x64, .f32⟩
  | 98 => ⟨S64, .f32⟩
  | 99 => ⟨S1x64, .f32⟩
  | 100 => ⟨S10000x64, .f32⟩
  | 101 => ⟨S10000x64, .f32⟩
  | 102 => ⟨S_, .i32⟩
  | 103 => ⟨S160000, .i32⟩
  | 104 => ⟨S160000, .i1⟩
  | 105 => ⟨S_, .i32⟩
  | 106 => ⟨S160000, .i32⟩
  | 107 => ⟨S160000, .i32⟩
  | 108 => ⟨S160000, .i32⟩
  | 109 => ⟨S160000x1, .i32⟩
  | 110 => ⟨S160000x64, .f32⟩
  | 111 => ⟨S_, .i32⟩
  | 112 => ⟨S160000, .i32⟩
  | 113 => ⟨S160000, .i1⟩
  | 114 => ⟨S_, .i32⟩
  | 115 => ⟨S160000, .i32⟩
  | 116 => ⟨S160000, .i32⟩
  | 117 => ⟨S160000, .i32⟩
  | 118 => ⟨S160000x1, .i32⟩
  | 119 => ⟨S160000x64, .f32⟩
  | 120 => ⟨S160000x64, .f32⟩
  | 121 => ⟨S1x64x64, .f32⟩
  | 122 => ⟨S64x64, .f32⟩
  | 123 => ⟨S160000x64, .f32⟩
  | 124 => ⟨S160000x64, .f32⟩
  | 125 => ⟨S1x64, .f32⟩
  | 126 => ⟨S64, .f32⟩
  | 127 => ⟨S1x64, .f32⟩
  | _ => ⟨S10000x4x128, .f32⟩

abbrev hbmTy0_3 (i : Nat) : BufTy := match i % 128 with
  | 0 => ⟨S160000x64, .f32⟩
  | 1 => ⟨S160000x64, .f32⟩
  | 2 => ⟨S160000x64, .f32⟩
  | 3 => ⟨S160000x64, .f32⟩
  | 4 => ⟨S_, .f32⟩
  | 5 => ⟨S160000x64, .f32⟩
  | 6 => ⟨S160000x64, .f32⟩
  | 7 => ⟨S_, .f32⟩
  | 8 => ⟨S160000x64, .f32⟩
  | 9 => ⟨S160000x64, .f32⟩
  | 10 => ⟨S_, .i32⟩
  | 11 => ⟨S160000, .i32⟩
  | 12 => ⟨S160000, .i1⟩
  | 13 => ⟨S_, .i32⟩
  | 14 => ⟨S160000, .i32⟩
  | 15 => ⟨S160000, .i32⟩
  | 16 => ⟨S160000, .i32⟩
  | 17 => ⟨S160000x1, .i32⟩
  | 18 => ⟨S160000x64, .f32⟩
  | 19 => ⟨S160000x64, .f32⟩
  | 20 => ⟨S_, .f32⟩
  | 21 => ⟨S10000x64, .f32⟩
  | 22 => ⟨S160000x1, .i32⟩
  | 23 => ⟨S10000x64, .f32⟩
  | 24 => ⟨S_, .f32⟩
  | 25 => ⟨S10000x64, .f32⟩
  | 26 => ⟨S160000x1, .i32⟩
  | 27 => ⟨S10000x64, .f32⟩
  | 28 => ⟨S1x64x64, .f32⟩
  | 29 => ⟨S64x64, .f32⟩
  | 30 => ⟨S10000x64, .f32⟩
  | 31 => ⟨S1x64, .f32⟩
  | 32 => ⟨S64, .f32⟩
  | 33 => ⟨S1x64, .f32⟩
  | 34 => ⟨S10000x64, .f32⟩
  | 35 => ⟨S10000x64, .f32⟩
  | 36 => ⟨S_, .f32⟩
  | 37 => ⟨S10000x64, .f32⟩
  | 38 => ⟨S10000x64, .f32⟩
  | 39 => ⟨S10000x64, .f32⟩
  | 40 => ⟨S10000x64, .f32⟩
  | 41 => ⟨S_, .f32⟩
  | 42 => ⟨S10000x64, .f32⟩
  | 43 => ⟨S10000x64, .f32⟩
  | 44 => ⟨S10000x64, .f32⟩
  | 45 => ⟨S_, .f32⟩
  | 46 => ⟨S160000x64, .f32⟩
  | 47 => ⟨S160000x64, .f32⟩
  | 48 => ⟨S160000x64, .f32⟩
  | 49 => ⟨S_, .i32⟩
  | 50 => ⟨S160000, .i32⟩
  | 51 => ⟨S160000, .i1⟩
  | 52 => ⟨S_, .i32⟩
  | 53 => ⟨S160000, .i32⟩
  | 54 => ⟨S160000, .i32⟩
  | 55 => ⟨S160000, .i32⟩
  | 56 => ⟨S160000x1, .i32⟩
  | 57 => ⟨S160000x64, .f32⟩
  | 58 => ⟨S_, .i32⟩
  | 59 => ⟨S160000, .i32⟩
  | 60 => ⟨S160000, .i1⟩
  | 61 => ⟨S_, .i32⟩
  | 62 => ⟨S160000, .i32⟩
  | 63 => ⟨S160000, .i32⟩
  | 64 => ⟨S160000, .i32⟩
  | 65 => ⟨S160000x1, .i32⟩
  | 66 => ⟨S160000x64, .f32⟩
  | 67 => ⟨S160000x192, .f32⟩
  | 68 => ⟨S160000x64, .f32⟩
  | 69 => ⟨S1x64, .f32⟩
  | 70 => ⟨S160000x64, .f32⟩
  | 71 => ⟨S160000x64, .f32⟩
  | 72 => ⟨S_, .f32⟩
  | 73 => ⟨S160000x64, .f32⟩
  | 74 => ⟨S160000x64, .f32⟩
  | 75 => ⟨S160000x1, .f32⟩
  | 76 => ⟨S1x1, .f32⟩
  | 77 => ⟨S160000x1, .f32⟩
  | 78 => ⟨S160000x1, .f32⟩
  | _ => ⟨S10000x4x128, .f32⟩

abbrev hbmTy (i : Nat) : BufTy := match i / 128 with
  | 0 => hbmTy0_0 i
  | 1 => hbmTy0_1 i
  | 2 => hbmTy0_2 i
  | 3 => hbmTy0_3 i
  | _ => ⟨S10000x4x128, .f32⟩

abbrev bufTy : (tb : Table) → Fin (tcTables nBuf tb) → BufTy
  | .hbm, ⟨i, _⟩ => hbmTy i
  | .local _ .vmem, ⟨0, _⟩ => ⟨S128x4x128, .f32⟩
  | .local _ .vmem, ⟨1, _⟩ => ⟨S128x4x128, .f32⟩
  | .local _ .vmem, ⟨2, _⟩ => ⟨S64x64, .f32⟩
  | .local _ .vmem, ⟨3, _⟩ => ⟨S64, .f32⟩
  | .local _ .vmem, ⟨4, _⟩ => ⟨S128x64, .f32⟩
  | .local _ .vmem, ⟨5, _⟩ => ⟨S128x64, .f32⟩
  | _, _ => ⟨S10000x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_c : Ref sig .tc := ⟨.hbm, 26, rfl⟩
abbrev main_call0_v0 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_0 : Ref sig .tc := ⟨.hbm, 61, rfl⟩
abbrev main_v37 : Ref sig .tc := ⟨.hbm, 62, rfl⟩
abbrev main_v38 : Ref sig .tc := ⟨.hbm, 63, rfl⟩
abbrev main_c_1 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_c_2 : Ref sig .tc := ⟨.hbm, 70, rfl⟩
abbrev main_v44 : Ref sig .tc := ⟨.hbm, 71, rfl⟩
abbrev main_v45 : Ref sig .tc := ⟨.hbm, 72, rfl⟩
abbrev main_c_3 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst : Ref sig .tc := ⟨.hbm, 91, rfl⟩
abbrev main_v63 : Ref sig .tc := ⟨.hbm, 92, rfl⟩
abbrev main_v64 : Ref sig .tc := ⟨.hbm, 93, rfl⟩
abbrev main_cst_4 : Ref sig .tc := ⟨.hbm, 94, rfl⟩
abbrev main_v65 : Ref sig .tc := ⟨.hbm, 95, rfl⟩
abbrev main_v66 : Ref sig .tc := ⟨.hbm, 96, rfl⟩
abbrev main_c_5 : Ref sig .tc := ⟨.hbm, 97, rfl⟩
abbrev main_v67 : Ref sig .tc := ⟨.hbm, 98, rfl⟩
abbrev main_v68 : Ref sig .tc := ⟨.hbm, 99, rfl⟩
abbrev main_c_6 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_7 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_8 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_9 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_call1_cst : Ref sig .tc := ⟨.hbm, 128, rfl⟩
abbrev main_call1_v0 : Ref sig .tc := ⟨.hbm, 129, rfl⟩
abbrev main_v93 : Ref sig .tc := ⟨.hbm, 130, rfl⟩
abbrev main_v94 : Ref sig .tc := ⟨.hbm, 131, rfl⟩
abbrev main_call2_cst : Ref sig .tc := ⟨.hbm, 132, rfl⟩
abbrev main_call2_v0 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_c_10 : Ref sig .tc := ⟨.hbm, 160, rfl⟩
abbrev main_v121 : Ref sig .tc := ⟨.hbm, 161, rfl⟩
abbrev main_v122 : Ref sig .tc := ⟨.hbm, 162, rfl⟩
abbrev main_c_11 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_c_12 : Ref sig .tc := ⟨.hbm, 169, rfl⟩
abbrev main_v128 : Ref sig .tc := ⟨.hbm, 170, rfl⟩
abbrev main_v129 : Ref sig .tc := ⟨.hbm, 171, rfl⟩
abbrev main_c_13 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_cst_14 : Ref sig .tc := ⟨.hbm, 190, rfl⟩
abbrev main_v147 : Ref sig .tc := ⟨.hbm, 191, rfl⟩
abbrev main_v148 : Ref sig .tc := ⟨.hbm, 192, rfl⟩
abbrev main_cst_15 : Ref sig .tc := ⟨.hbm, 193, rfl⟩
abbrev main_v149 : Ref sig .tc := ⟨.hbm, 194, rfl⟩
abbrev main_v150 : Ref sig .tc := ⟨.hbm, 195, rfl⟩
abbrev main_c_16 : Ref sig .tc := ⟨.hbm, 196, rfl⟩
abbrev main_v151 : Ref sig .tc := ⟨.hbm, 197, rfl⟩
abbrev main_v152 : Ref sig .tc := ⟨.hbm, 198, rfl⟩
abbrev main_c_17 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_cst_18 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_cst_19 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_cst_20 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_call3_cst : Ref sig .tc := ⟨.hbm, 227, rfl⟩
abbrev main_call3_v0 : Ref sig .tc := ⟨.hbm, 228, rfl⟩
abbrev main_v177 : Ref sig .tc := ⟨.hbm, 229, rfl⟩
abbrev main_v178 : Ref sig .tc := ⟨.hbm, 230, rfl⟩
abbrev main_call4_cst : Ref sig .tc := ⟨.hbm, 231, rfl⟩
abbrev main_call4_v0 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_v196 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_v202 : Ref sig .tc := ⟨.hbm, 256, rfl⟩
abbrev main_v203 : Ref sig .tc := ⟨.hbm, 257, rfl⟩
abbrev main_v204 : Ref sig .tc := ⟨.hbm, 258, rfl⟩
abbrev main_c_21 : Ref sig .tc := ⟨.hbm, 259, rfl⟩
abbrev main_v205 : Ref sig .tc := ⟨.hbm, 260, rfl⟩
abbrev main_v206 : Ref sig .tc := ⟨.hbm, 261, rfl⟩
abbrev main_c_22 : Ref sig .tc := ⟨.hbm, 262, rfl⟩
abbrev main_v207 : Ref sig .tc := ⟨.hbm, 263, rfl⟩
abbrev main_v208 : Ref sig .tc := ⟨.hbm, 264, rfl⟩
abbrev main_v209 : Ref sig .tc := ⟨.hbm, 265, rfl⟩
abbrev main_v210 : Ref sig .tc := ⟨.hbm, 266, rfl⟩
abbrev main_v211 : Ref sig .tc := ⟨.hbm, 267, rfl⟩
abbrev main_c_23 : Ref sig .tc := ⟨.hbm, 268, rfl⟩
abbrev main_v212 : Ref sig .tc := ⟨.hbm, 269, rfl⟩
abbrev main_v213 : Ref sig .tc := ⟨.hbm, 270, rfl⟩
abbrev main_c_24 : Ref sig .tc := ⟨.hbm, 271, rfl⟩
abbrev main_v214 : Ref sig .tc := ⟨.hbm, 272, rfl⟩
abbrev main_v215 : Ref sig .tc := ⟨.hbm, 273, rfl⟩
abbrev main_v216 : Ref sig .tc := ⟨.hbm, 274, rfl⟩
abbrev main_v217 : Ref sig .tc := ⟨.hbm, 275, rfl⟩
abbrev main_v218 : Ref sig .tc := ⟨.hbm, 276, rfl⟩
abbrev main_v219 : Ref sig .tc := ⟨.hbm, 277, rfl⟩
abbrev main_v220 : Ref sig .tc := ⟨.hbm, 278, rfl⟩
abbrev main_v221 : Ref sig .tc := ⟨.hbm, 279, rfl⟩
abbrev main_v222 : Ref sig .tc := ⟨.hbm, 280, rfl⟩
abbrev main_v223 : Ref sig .tc := ⟨.hbm, 281, rfl⟩
abbrev main_v224 : Ref sig .tc := ⟨.hbm, 282, rfl⟩
abbrev main_v225 : Ref sig .tc := ⟨.hbm, 283, rfl⟩
abbrev main_v226 : Ref sig .tc := ⟨.hbm, 284, rfl⟩
abbrev main_v227 : Ref sig .tc := ⟨.hbm, 285, rfl⟩
abbrev main_v228 : Ref sig .tc := ⟨.hbm, 286, rfl⟩
abbrev main_v229 : Ref sig .tc := ⟨.hbm, 287, rfl⟩
abbrev main_v230 : Ref sig .tc := ⟨.hbm, 288, rfl⟩
abbrev main_cst_25 : Ref sig .tc := ⟨.hbm, 289, rfl⟩
abbrev main_v231 : Ref sig .tc := ⟨.hbm, 290, rfl⟩
abbrev main_v232 : Ref sig .tc := ⟨.hbm, 291, rfl⟩
abbrev main_cst_26 : Ref sig .tc := ⟨.hbm, 292, rfl⟩
abbrev main_v233 : Ref sig .tc := ⟨.hbm, 293, rfl⟩
abbrev main_v234 : Ref sig .tc := ⟨.hbm, 294, rfl⟩
abbrev main_c_27 : Ref sig .tc := ⟨.hbm, 295, rfl⟩
abbrev main_v235 : Ref sig .tc := ⟨.hbm, 296, rfl⟩
abbrev main_v236 : Ref sig .tc := ⟨.hbm, 297, rfl⟩
abbrev main_c_28 : Ref sig .tc := ⟨.hbm, 298, rfl⟩
abbrev main_v237 : Ref sig .tc := ⟨.hbm, 299, rfl⟩
abbrev main_v238 : Ref sig .tc := ⟨.hbm, 300, rfl⟩
abbrev main_v239 : Ref sig .tc := ⟨.hbm, 301, rfl⟩
abbrev main_v240 : Ref sig .tc := ⟨.hbm, 302, rfl⟩
abbrev main_v241 : Ref sig .tc := ⟨.hbm, 303, rfl⟩
abbrev main_v242 : Ref sig .tc := ⟨.hbm, 304, rfl⟩
abbrev main_cst_29 : Ref sig .tc := ⟨.hbm, 305, rfl⟩
abbrev main_v243 : Ref sig .tc := ⟨.hbm, 306, rfl⟩
abbrev main_v244 : Ref sig .tc := ⟨.hbm, 307, rfl⟩
abbrev main_v245 : Ref sig .tc := ⟨.hbm, 308, rfl⟩
abbrev main_cst_30 : Ref sig .tc := ⟨.hbm, 309, rfl⟩
abbrev main_v246 : Ref sig .tc := ⟨.hbm, 310, rfl⟩
abbrev main_v247 : Ref sig .tc := ⟨.hbm, 311, rfl⟩
abbrev main_v248 : Ref sig .tc := ⟨.hbm, 312, rfl⟩
abbrev main_v249 : Ref sig .tc := ⟨.hbm, 313, rfl⟩
abbrev main_v250 : Ref sig .tc := ⟨.hbm, 314, rfl⟩
abbrev main_v251 : Ref sig .tc := ⟨.hbm, 315, rfl⟩
abbrev main_v252 : Ref sig .tc := ⟨.hbm, 316, rfl⟩
abbrev main_v253 : Ref sig .tc := ⟨.hbm, 317, rfl⟩
abbrev main_v254 : Ref sig .tc := ⟨.hbm, 318, rfl⟩
abbrev main_v255 : Ref sig .tc := ⟨.hbm, 319, rfl⟩
abbrev main_v256 : Ref sig .tc := ⟨.hbm, 320, rfl⟩
abbrev main_cst_31 : Ref sig .tc := ⟨.hbm, 321, rfl⟩
abbrev main_v257 : Ref sig .tc := ⟨.hbm, 322, rfl⟩
abbrev main_v258 : Ref sig .tc := ⟨.hbm, 323, rfl⟩
abbrev main_v259 : Ref sig .tc := ⟨.hbm, 324, rfl⟩
abbrev main_v260 : Ref sig .tc := ⟨.hbm, 325, rfl⟩
abbrev main_call5_cst : Ref sig .tc := ⟨.hbm, 326, rfl⟩
abbrev main_call5_v0 : Ref sig .tc := ⟨.hbm, 327, rfl⟩
abbrev main_v261 : Ref sig .tc := ⟨.hbm, 328, rfl⟩
abbrev main_v262 : Ref sig .tc := ⟨.hbm, 329, rfl⟩
abbrev main_call6_cst : Ref sig .tc := ⟨.hbm, 330, rfl⟩
abbrev main_call6_v0 : Ref sig .tc := ⟨.hbm, 331, rfl⟩
abbrev main_v263 : Ref sig .tc := ⟨.hbm, 332, rfl⟩
abbrev main_v264 : Ref sig .tc := ⟨.hbm, 333, rfl⟩
abbrev main_v265 : Ref sig .tc := ⟨.hbm, 334, rfl⟩
abbrev main_v266 : Ref sig .tc := ⟨.hbm, 335, rfl⟩
abbrev main_v267 : Ref sig .tc := ⟨.hbm, 336, rfl⟩
abbrev main_v268 : Ref sig .tc := ⟨.hbm, 337, rfl⟩
abbrev main_v269 : Ref sig .tc := ⟨.hbm, 338, rfl⟩
abbrev main_v270 : Ref sig .tc := ⟨.hbm, 339, rfl⟩
abbrev main_v271 : Ref sig .tc := ⟨.hbm, 340, rfl⟩
abbrev main_v272 : Ref sig .tc := ⟨.hbm, 341, rfl⟩
abbrev main_v273 : Ref sig .tc := ⟨.hbm, 342, rfl⟩
abbrev main_v274 : Ref sig .tc := ⟨.hbm, 343, rfl⟩
abbrev main_v275 : Ref sig .tc := ⟨.hbm, 344, rfl⟩
abbrev main_v276 : Ref sig .tc := ⟨.hbm, 345, rfl⟩
abbrev main_v277 : Ref sig .tc := ⟨.hbm, 346, rfl⟩
abbrev main_v278 : Ref sig .tc := ⟨.hbm, 347, rfl⟩
abbrev main_v279 : Ref sig .tc := ⟨.hbm, 348, rfl⟩
abbrev main_v280 : Ref sig .tc := ⟨.hbm, 349, rfl⟩
abbrev main_v281 : Ref sig .tc := ⟨.hbm, 350, rfl⟩
abbrev main_v282 : Ref sig .tc := ⟨.hbm, 351, rfl⟩
abbrev main_v283 : Ref sig .tc := ⟨.hbm, 352, rfl⟩
abbrev main_v284 : Ref sig .tc := ⟨.hbm, 353, rfl⟩
abbrev main_v285 : Ref sig .tc := ⟨.hbm, 354, rfl⟩
abbrev main_v286 : Ref sig .tc := ⟨.hbm, 355, rfl⟩
abbrev main_v287 : Ref sig .tc := ⟨.hbm, 356, rfl⟩
abbrev main_v288 : Ref sig .tc := ⟨.hbm, 357, rfl⟩
abbrev main_c_32 : Ref sig .tc := ⟨.hbm, 358, rfl⟩
abbrev main_v289 : Ref sig .tc := ⟨.hbm, 359, rfl⟩
abbrev main_v290 : Ref sig .tc := ⟨.hbm, 360, rfl⟩
abbrev main_c_33 : Ref sig .tc := ⟨.hbm, 361, rfl⟩
abbrev main_v291 : Ref sig .tc := ⟨.hbm, 362, rfl⟩
abbrev main_v292 : Ref sig .tc := ⟨.hbm, 363, rfl⟩
abbrev main_v293 : Ref sig .tc := ⟨.hbm, 364, rfl⟩
abbrev main_v294 : Ref sig .tc := ⟨.hbm, 365, rfl⟩
abbrev main_v295 : Ref sig .tc := ⟨.hbm, 366, rfl⟩
abbrev main_c_34 : Ref sig .tc := ⟨.hbm, 367, rfl⟩
abbrev main_v296 : Ref sig .tc := ⟨.hbm, 368, rfl⟩
abbrev main_v297 : Ref sig .tc := ⟨.hbm, 369, rfl⟩
abbrev main_c_35 : Ref sig .tc := ⟨.hbm, 370, rfl⟩
abbrev main_v298 : Ref sig .tc := ⟨.hbm, 371, rfl⟩
abbrev main_v299 : Ref sig .tc := ⟨.hbm, 372, rfl⟩
abbrev main_v300 : Ref sig .tc := ⟨.hbm, 373, rfl⟩
abbrev main_v301 : Ref sig .tc := ⟨.hbm, 374, rfl⟩
abbrev main_v302 : Ref sig .tc := ⟨.hbm, 375, rfl⟩
abbrev main_v303 : Ref sig .tc := ⟨.hbm, 376, rfl⟩
abbrev main_v304 : Ref sig .tc := ⟨.hbm, 377, rfl⟩
abbrev main_v305 : Ref sig .tc := ⟨.hbm, 378, rfl⟩
abbrev main_v306 : Ref sig .tc := ⟨.hbm, 379, rfl⟩
abbrev main_v307 : Ref sig .tc := ⟨.hbm, 380, rfl⟩
abbrev main_v308 : Ref sig .tc := ⟨.hbm, 381, rfl⟩
abbrev main_v309 : Ref sig .tc := ⟨.hbm, 382, rfl⟩
abbrev main_v310 : Ref sig .tc := ⟨.hbm, 383, rfl⟩
abbrev main_v311 : Ref sig .tc := ⟨.hbm, 384, rfl⟩
abbrev main_v312 : Ref sig .tc := ⟨.hbm, 385, rfl⟩
abbrev main_v313 : Ref sig .tc := ⟨.hbm, 386, rfl⟩
abbrev main_v314 : Ref sig .tc := ⟨.hbm, 387, rfl⟩
abbrev main_cst_36 : Ref sig .tc := ⟨.hbm, 388, rfl⟩
abbrev main_v315 : Ref sig .tc := ⟨.hbm, 389, rfl⟩
abbrev main_v316 : Ref sig .tc := ⟨.hbm, 390, rfl⟩
abbrev main_cst_37 : Ref sig .tc := ⟨.hbm, 391, rfl⟩
abbrev main_v317 : Ref sig .tc := ⟨.hbm, 392, rfl⟩
abbrev main_v318 : Ref sig .tc := ⟨.hbm, 393, rfl⟩
abbrev main_c_38 : Ref sig .tc := ⟨.hbm, 394, rfl⟩
abbrev main_v319 : Ref sig .tc := ⟨.hbm, 395, rfl⟩
abbrev main_v320 : Ref sig .tc := ⟨.hbm, 396, rfl⟩
abbrev main_c_39 : Ref sig .tc := ⟨.hbm, 397, rfl⟩
abbrev main_v321 : Ref sig .tc := ⟨.hbm, 398, rfl⟩
abbrev main_v322 : Ref sig .tc := ⟨.hbm, 399, rfl⟩
abbrev main_v323 : Ref sig .tc := ⟨.hbm, 400, rfl⟩
abbrev main_v324 : Ref sig .tc := ⟨.hbm, 401, rfl⟩
abbrev main_v325 : Ref sig .tc := ⟨.hbm, 402, rfl⟩
abbrev main_v326 : Ref sig .tc := ⟨.hbm, 403, rfl⟩
abbrev main_cst_40 : Ref sig .tc := ⟨.hbm, 404, rfl⟩
abbrev main_v327 : Ref sig .tc := ⟨.hbm, 405, rfl⟩
abbrev main_v328 : Ref sig .tc := ⟨.hbm, 406, rfl⟩
abbrev main_v329 : Ref sig .tc := ⟨.hbm, 407, rfl⟩
abbrev main_cst_41 : Ref sig .tc := ⟨.hbm, 408, rfl⟩
abbrev main_v330 : Ref sig .tc := ⟨.hbm, 409, rfl⟩
abbrev main_v331 : Ref sig .tc := ⟨.hbm, 410, rfl⟩
abbrev main_v332 : Ref sig .tc := ⟨.hbm, 411, rfl⟩
abbrev main_v333 : Ref sig .tc := ⟨.hbm, 412, rfl⟩
abbrev main_v334 : Ref sig .tc := ⟨.hbm, 413, rfl⟩
abbrev main_v335 : Ref sig .tc := ⟨.hbm, 414, rfl⟩
abbrev main_v336 : Ref sig .tc := ⟨.hbm, 415, rfl⟩
abbrev main_v337 : Ref sig .tc := ⟨.hbm, 416, rfl⟩
abbrev main_v338 : Ref sig .tc := ⟨.hbm, 417, rfl⟩
abbrev main_v339 : Ref sig .tc := ⟨.hbm, 418, rfl⟩
abbrev main_v340 : Ref sig .tc := ⟨.hbm, 419, rfl⟩
abbrev main_cst_42 : Ref sig .tc := ⟨.hbm, 420, rfl⟩
abbrev main_v341 : Ref sig .tc := ⟨.hbm, 421, rfl⟩
abbrev main_v342 : Ref sig .tc := ⟨.hbm, 422, rfl⟩
abbrev main_v343 : Ref sig .tc := ⟨.hbm, 423, rfl⟩
abbrev main_v344 : Ref sig .tc := ⟨.hbm, 424, rfl⟩
abbrev main_call7_cst : Ref sig .tc := ⟨.hbm, 425, rfl⟩
abbrev main_call7_v0 : Ref sig .tc := ⟨.hbm, 426, rfl⟩
abbrev main_v345 : Ref sig .tc := ⟨.hbm, 427, rfl⟩
abbrev main_v346 : Ref sig .tc := ⟨.hbm, 428, rfl⟩
abbrev main_call8_cst : Ref sig .tc := ⟨.hbm, 429, rfl⟩
abbrev main_call8_v0 : Ref sig .tc := ⟨.hbm, 430, rfl⟩
abbrev main_v347 : Ref sig .tc := ⟨.hbm, 431, rfl⟩
abbrev main_v348 : Ref sig .tc := ⟨.hbm, 432, rfl⟩
abbrev main_c_43 : Ref sig .tc := ⟨.hbm, 433, rfl⟩
abbrev main_v349 : Ref sig .tc := ⟨.hbm, 434, rfl⟩
abbrev main_v350 : Ref sig .tc := ⟨.hbm, 435, rfl⟩
abbrev main_c_44 : Ref sig .tc := ⟨.hbm, 436, rfl⟩
abbrev main_v351 : Ref sig .tc := ⟨.hbm, 437, rfl⟩
abbrev main_v352 : Ref sig .tc := ⟨.hbm, 438, rfl⟩
abbrev main_v353 : Ref sig .tc := ⟨.hbm, 439, rfl⟩
abbrev main_v354 : Ref sig .tc := ⟨.hbm, 440, rfl⟩
abbrev main_v355 : Ref sig .tc := ⟨.hbm, 441, rfl⟩
abbrev main_c_45 : Ref sig .tc := ⟨.hbm, 442, rfl⟩
abbrev main_v356 : Ref sig .tc := ⟨.hbm, 443, rfl⟩
abbrev main_v357 : Ref sig .tc := ⟨.hbm, 444, rfl⟩
abbrev main_c_46 : Ref sig .tc := ⟨.hbm, 445, rfl⟩
abbrev main_v358 : Ref sig .tc := ⟨.hbm, 446, rfl⟩
abbrev main_v359 : Ref sig .tc := ⟨.hbm, 447, rfl⟩
abbrev main_v360 : Ref sig .tc := ⟨.hbm, 448, rfl⟩
abbrev main_v361 : Ref sig .tc := ⟨.hbm, 449, rfl⟩
abbrev main_v362 : Ref sig .tc := ⟨.hbm, 450, rfl⟩
abbrev main_v363 : Ref sig .tc := ⟨.hbm, 451, rfl⟩
abbrev main_v364 : Ref sig .tc := ⟨.hbm, 452, rfl⟩
abbrev main_v365 : Ref sig .tc := ⟨.hbm, 453, rfl⟩
abbrev main_v366 : Ref sig .tc := ⟨.hbm, 454, rfl⟩
abbrev main_v367 : Ref sig .tc := ⟨.hbm, 455, rfl⟩
abbrev main_call9_cst : Ref sig .tc := ⟨.hbm, 456, rfl⟩
abbrev main_call9_v0 : Ref sig .tc := ⟨.hbm, 457, rfl⟩
abbrev main_v368 : Ref sig .tc := ⟨.hbm, 458, rfl⟩
abbrev main_v369 : Ref sig .tc := ⟨.hbm, 459, rfl⟩
abbrev main_v370 : Ref sig .tc := ⟨.hbm, 460, rfl⟩
abbrev main_v371 : Ref sig .tc := ⟨.hbm, 461, rfl⟩
abbrev main_v372 : Ref sig .tc := ⟨.hbm, 462, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![80], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "mean" => some ((113⁻¹ : ℝ) : EReal)
  | _ => none
-- ==== ReferenceIdeal.lean ====
abbrev S10000x4x128 : Shape := ⟨3, ![10000, 4, 128]⟩
abbrev S2x160000 : Shape := ⟨2, ![2, 160000]⟩
abbrev S160000 : Shape := ⟨1, ![160000]⟩
abbrev S64x4x16 : Shape := ⟨3, ![64, 4, 16]⟩
abbrev S64 : Shape := ⟨1, ![64]⟩
abbrev S1x64 : Shape := ⟨2, ![1, 64]⟩
abbrev S4x64x64 : Shape := ⟨3, ![4, 64, 64]⟩
abbrev S4x64 : Shape := ⟨2, ![4, 64]⟩
abbrev S192x64 : Shape := ⟨2, ![192, 64]⟩
abbrev S64x1 : Shape := ⟨2, ![64, 1]⟩
abbrev S1 : Shape := ⟨1, ![1]⟩
abbrev S1x160000 : Shape := ⟨2, ![1, 160000]⟩
abbrev S10000x4x113 : Shape := ⟨3, ![10000, 4, 113]⟩
abbrev S64x4x1 : Shape := ⟨3, ![64, 4, 1]⟩
abbrev S64x4 : Shape := ⟨2, ![64, 4]⟩
abbrev S64x10000x113 : Shape := ⟨3, ![64, 10000, 113]⟩
abbrev S10000x64x113 : Shape := ⟨3, ![10000, 64, 113]⟩
abbrev S_ : Shape := ⟨0, ![]⟩
abbrev S1x64x1 : Shape := ⟨3, ![1, 64, 1]⟩
abbrev S10000x64 : Shape := ⟨2, ![10000, 64]⟩
abbrev S160000x1 : Shape := ⟨2, ![160000, 1]⟩
abbrev S160000x64 : Shape := ⟨2, ![160000, 64]⟩
abbrev S1x64x64 : Shape := ⟨3, ![1, 64, 64]⟩
abbrev S64x64 : Shape := ⟨2, ![64, 64]⟩
abbrev S160000x192 : Shape := ⟨2, ![160000, 192]⟩
abbrev S1x1 : Shape := ⟨2, ![1, 1]⟩

abbrev nBuf : Space → Nat
  | .hbm => 566
  | .vmem => 0
  | .smem => 0
  | _ => 0

abbrev hbmTy0_0 (i : Nat) : BufTy := match i % 128 with
  | 0 => ⟨S10000x4x128, .f32⟩
  | 1 => ⟨S2x160000, .i32⟩
  | 2 => ⟨S160000, .f32⟩
  | 3 => ⟨S160000, .f32⟩
  | 4 => ⟨S64x4x16, .f32⟩
  | 5 => ⟨S64, .f32⟩
  | 6 => ⟨S1x64, .f32⟩
  | 7 => ⟨S64, .f32⟩
  | 8 => ⟨S4x64x64, .f32⟩
  | 9 => ⟨S4x64, .f32⟩
  | 10 => ⟨S4x64x64, .f32⟩
  | 11 => ⟨S4x64, .f32⟩
  | 12 => ⟨S4x64x64, .f32⟩
  | 13 => ⟨S4x64, .f32⟩
  | 14 => ⟨S4x64x64, .f32⟩
  | 15 => ⟨S4x64, .f32⟩
  | 16 => ⟨S4x64x64, .f32⟩
  | 17 => ⟨S4x64, .f32⟩
  | 18 => ⟨S192x64, .f32⟩
  | 19 => ⟨S64, .f32⟩
  | 20 => ⟨S64x1, .f32⟩
  | 21 => ⟨S1, .f32⟩
  | 22 => ⟨S1x160000, .i32⟩
  | 23 => ⟨S160000, .i32⟩
  | 24 => ⟨S1x160000, .i32⟩
  | 25 => ⟨S160000, .i32⟩
  | 26 => ⟨S10000x4x113, .f32⟩
  | 27 => ⟨S64x4x1, .f32⟩
  | 28 => ⟨S64x4, .f32⟩
  | 29 => ⟨S64x10000x113, .f32⟩
  | 30 => ⟨S10000x64x113, .f32⟩
  | 31 => ⟨S_, .f32⟩
  | 32 => ⟨S10000x64x113, .f32⟩
  | 33 => ⟨S10000x64x113, .f32⟩
  | 34 => ⟨S10000x4x113, .f32⟩
  | 35 => ⟨S64x4x1, .f32⟩
  | 36 => ⟨S64x4, .f32⟩
  | 37 => ⟨S64x10000x113, .f32⟩
  | 38 => ⟨S10000x64x113, .f32⟩
  | 39 => ⟨S10000x64x113, .f32⟩
  | 40 => ⟨S10000x4x113, .f32⟩
  | 41 => ⟨S64x4x1, .f32⟩
  | 42 => ⟨S64x4, .f32⟩
  | 43 => ⟨S64x10000x113, .f32⟩
  | 44 => ⟨S10000x64x113, .f32⟩
  | 45 => ⟨S10000x64x113, .f32⟩
  | 46 => ⟨S10000x4x113, .f32⟩
  | 47 => ⟨S64x4x1, .f32⟩
  | 48 => ⟨S64x4, .f32⟩
  | 49 => ⟨S64x10000x113, .f32⟩
  | 50 => ⟨S10000x64x113, .f32⟩
  | 51 => ⟨S10000x64x113, .f32⟩
  | 52 => ⟨S10000x4x113, .f32⟩
  | 53 => ⟨S64x4x1, .f32⟩
  | 54 => ⟨S64x4, .f32⟩
  | 55 => ⟨S64x10000x113, .f32⟩
  | 56 => ⟨S10000x64x113, .f32⟩
  | 57 => ⟨S10000x64x113, .f32⟩
  | 58 => ⟨S10000x4x113, .f32⟩
  | 59 => ⟨S64x4x1, .f32⟩
  | 60 => ⟨S64x4, .f32⟩
  | 61 => ⟨S64x10000x113, .f32⟩
  | 62 => ⟨S10000x64x113, .f32⟩
  | 63 => ⟨S10000x64x113, .f32⟩
  | 64 => ⟨S10000x4x113, .f32⟩
  | 65 => ⟨S64x4x1, .f32⟩
  | 66 => ⟨S64x4, .f32⟩
  | 67 => ⟨S64x10000x113, .f32⟩
  | 68 => ⟨S10000x64x113, .f32⟩
  | 69 => ⟨S10000x64x113, .f32⟩
  | 70 => ⟨S10000x4x113, .f32⟩
  | 71 => ⟨S64x4x1, .f32⟩
  | 72 => ⟨S64x4, .f32⟩
  | 73 => ⟨S64x10000x113, .f32⟩
  | 74 => ⟨S10000x64x113, .f32⟩
  | 75 => ⟨S10000x64x113, .f32⟩
  | 76 => ⟨S10000x4x113, .f32⟩
  | 77 => ⟨S64x4x1, .f32⟩
  | 78 => ⟨S64x4, .f32⟩
  | 79 => ⟨S64x10000x113, .f32⟩
  | 80 => ⟨S10000x64x113, .f32⟩
  | 81 => ⟨S10000x64x113, .f32⟩
  | 82 => ⟨S10000x4x113, .f32⟩
  | 83 => ⟨S64x4x1, .f32⟩
  | 84 => ⟨S64x4, .f32⟩
  | 85 => ⟨S64x10000x113, .f32⟩
  | 86 => ⟨S10000x64x113, .f32⟩
  | 87 => ⟨S10000x64x113, .f32⟩
  | 88 => ⟨S10000x4x113, .f32⟩
  | 89 => ⟨S64x4x1, .f32⟩
  | 90 => ⟨S64x4, .f32⟩
  | 91 => ⟨S64x10000x113, .f32⟩
  | 92 => ⟨S10000x64x113, .f32⟩
  | 93 => ⟨S10000x64x113, .f32⟩
  | 94 => ⟨S10000x4x113, .f32⟩
  | 95 => ⟨S64x4x1, .f32⟩
  | 96 => ⟨S64x4, .f32⟩
  | 97 => ⟨S64x10000x113, .f32⟩
  | 98 => ⟨S10000x64x113, .f32⟩
  | 99 => ⟨S10000x64x113, .f32⟩
  | 100 => ⟨S10000x4x113, .f32⟩
  | 101 => ⟨S64x4x1, .f32⟩
  | 102 => ⟨S64x4, .f32⟩
  | 103 => ⟨S64x10000x113, .f32⟩
  | 104 => ⟨S10000x64x113, .f32⟩
  | 105 => ⟨S10000x64x113, .f32⟩
  | 106 => ⟨S10000x4x113, .f32⟩
  | 107 => ⟨S64x4x1, .f32⟩
  | 108 => ⟨S64x4, .f32⟩
  | 109 => ⟨S64x10000x113, .f32⟩
  | 110 => ⟨S10000x64x113, .f32⟩
  | 111 => ⟨S10000x64x113, .f32⟩
  | 112 => ⟨S10000x4x113, .f32⟩
  | 113 => ⟨S64x4x1, .f32⟩
  | 114 => ⟨S64x4, .f32⟩
  | 115 => ⟨S64x10000x113, .f32⟩
  | 116 => ⟨S10000x64x113, .f32⟩
  | 117 => ⟨S10000x64x113, .f32⟩
  | 118 => ⟨S10000x4x113, .f32⟩
  | 119 => ⟨S64x4x1, .f32⟩
  | 120 => ⟨S64x4, .f32⟩
  | 121 => ⟨S64x10000x113, .f32⟩
  | 122 => ⟨S10000x64x113, .f32⟩
  | 123 => ⟨S10000x64x113, .f32⟩
  | 124 => ⟨S1x64x1, .f32⟩
  | 125 => ⟨S10000x64x113, .f32⟩
  | 126 => ⟨S10000x64x113, .f32⟩
  | 127 => ⟨S_, .f32⟩
  | _ => ⟨S10000x4x128, .f32⟩

abbrev hbmTy0_1 (i : Nat) : BufTy := match i % 128 with
  | 0 => ⟨S10000x64x113, .f32⟩
  | 1 => ⟨S10000x64x113, .f32⟩
  | 2 => ⟨S_, .f32⟩
  | 3 => ⟨S10000x64, .f32⟩
  | 4 => ⟨S_, .f32⟩
  | 5 => ⟨S10000x64, .f32⟩
  | 6 => ⟨S10000x64, .f32⟩
  | 7 => ⟨S160000x1, .f32⟩
  | 8 => ⟨S160000x64, .f32⟩
  | 9 => ⟨S1x64, .f32⟩
  | 10 => ⟨S160000x64, .f32⟩
  | 11 => ⟨S160000x64, .f32⟩
  | 12 => ⟨S1x64x64, .f32⟩
  | 13 => ⟨S64x64, .f32⟩
  | 14 => ⟨S10000x64, .f32⟩
  | 15 => ⟨S1x64, .f32⟩
  | 16 => ⟨S64, .f32⟩
  | 17 => ⟨S1x64, .f32⟩
  | 18 => ⟨S10000x64, .f32⟩
  | 19 => ⟨S10000x64, .f32⟩
  | 20 => ⟨S1x64x64, .f32⟩
  | 21 => ⟨S64x64, .f32⟩
  | 22 => ⟨S10000x64, .f32⟩
  | 23 => ⟨S1x64, .f32⟩
  | 24 => ⟨S64, .f32⟩
  | 25 => ⟨S1x64, .f32⟩
  | 26 => ⟨S10000x64, .f32⟩
  | 27 => ⟨S10000x64, .f32⟩
  | 28 => ⟨S1x64x64, .f32⟩
  | 29 => ⟨S64x64, .f32⟩
  | 30 => ⟨S10000x64, .f32⟩
  | 31 => ⟨S1x64, .f32⟩
  | 32 => ⟨S64, .f32⟩
  | 33 => ⟨S1x64, .f32⟩
  | 34 => ⟨S10000x64, .f32⟩
  | 35 => ⟨S10000x64, .f32⟩
  | 36 => ⟨S_, .i32⟩
  | 37 => ⟨S160000, .i32⟩
  | 38 => ⟨S160000, .i1⟩
  | 39 => ⟨S_, .i32⟩
  | 40 => ⟨S160000, .i32⟩
  | 41 => ⟨S160000, .i32⟩
  | 42 => ⟨S160000, .i32⟩
  | 43 => ⟨S160000x1, .i32⟩
  | 44 => ⟨S160000x64, .f32⟩
  | 45 => ⟨S_, .i32⟩
  | 46 => ⟨S160000, .i32⟩
  | 47 => ⟨S160000, .i1⟩
  | 48 => ⟨S_, .i32⟩
  | 49 => ⟨S160000, .i32⟩
  | 50 => ⟨S160000, .i32⟩
  | 51 => ⟨S160000, .i32⟩
  | 52 => ⟨S160000x1, .i32⟩
  | 53 => ⟨S160000x64, .f32⟩
  | 54 => ⟨S160000x64, .f32⟩
  | 55 => ⟨S1x64x64, .f32⟩
  | 56 => ⟨S64x64, .f32⟩
  | 57 => ⟨S160000x64, .f32⟩
  | 58 => ⟨S160000x64, .f32⟩
  | 59 => ⟨S1x64, .f32⟩
  | 60 => ⟨S64, .f32⟩
  | 61 => ⟨S1x64, .f32⟩
  | 62 => ⟨S160000x64, .f32⟩
  | 63 => ⟨S160000x64, .f32⟩
  | 64 => ⟨S160000x64, .f32⟩
  | 65 => ⟨S160000x64, .f32⟩
  | 66 => ⟨S_, .f32⟩
  | 67 => ⟨S160000x64, .f32⟩
  | 68 => ⟨S160000x64, .f32⟩
  | 69 => ⟨S_, .f32⟩
  | 70 => ⟨S160000x64, .f32⟩
  | 71 => ⟨S160000x64, .f32⟩
  | 72 => ⟨S_, .i32⟩
  | 73 => ⟨S160000, .i32⟩
  | 74 => ⟨S160000, .i1⟩
  | 75 => ⟨S_, .i32⟩
  | 76 => ⟨S160000, .i32⟩
  | 77 => ⟨S160000, .i32⟩
  | 78 => ⟨S160000, .i32⟩
  | 79 => ⟨S160000x1, .i32⟩
  | 80 => ⟨S160000x64, .f32⟩
  | 81 => ⟨S160000x64, .f32⟩
  | 82 => ⟨S_, .f32⟩
  | 83 => ⟨S10000x64, .f32⟩
  | 84 => ⟨S160000x1, .i32⟩
  | 85 => ⟨S10000x64, .f32⟩
  | 86 => ⟨S_, .f32⟩
  | 87 => ⟨S10000x64, .f32⟩
  | 88 => ⟨S160000x1, .i32⟩
  | 89 => ⟨S10000x64, .f32⟩
  | 90 => ⟨S1x64x64, .f32⟩
  | 91 => ⟨S64x64, .f32⟩
  | 92 => ⟨S10000x64, .f32⟩
  | 93 => ⟨S1x64, .f32⟩
  | 94 => ⟨S64, .f32⟩
  | 95 => ⟨S1x64, .f32⟩
  | 96 => ⟨S10000x64, .f32⟩
  | 97 => ⟨S10000x64, .f32⟩
  | 98 => ⟨S_, .f32⟩
  | 99 => ⟨S10000x64, .f32⟩
  | 100 => ⟨S10000x64, .f32⟩
  | 101 => ⟨S10000x64, .f32⟩
  | 102 => ⟨S10000x64, .f32⟩
  | 103 => ⟨S_, .f32⟩
  | 104 => ⟨S10000x64, .f32⟩
  | 105 => ⟨S10000x64, .f32⟩
  | 106 => ⟨S10000x64, .f32⟩
  | 107 => ⟨S_, .f32⟩
  | 108 => ⟨S160000x64, .f32⟩
  | 109 => ⟨S160000x64, .f32⟩
  | 110 => ⟨S160000x64, .f32⟩
  | 111 => ⟨S1x64x64, .f32⟩
  | 112 => ⟨S64x64, .f32⟩
  | 113 => ⟨S10000x64, .f32⟩
  | 114 => ⟨S1x64, .f32⟩
  | 115 => ⟨S64, .f32⟩
  | 116 => ⟨S1x64, .f32⟩
  | 117 => ⟨S10000x64, .f32⟩
  | 118 => ⟨S10000x64, .f32⟩
  | 119 => ⟨S1x64x64, .f32⟩
  | 120 => ⟨S64x64, .f32⟩
  | 121 => ⟨S10000x64, .f32⟩
  | 122 => ⟨S1x64, .f32⟩
  | 123 => ⟨S64, .f32⟩
  | 124 => ⟨S1x64, .f32⟩
  | 125 => ⟨S10000x64, .f32⟩
  | 126 => ⟨S10000x64, .f32⟩
  | 127 => ⟨S1x64x64, .f32⟩
  | _ => ⟨S10000x4x128, .f32⟩

abbrev hbmTy0_2 (i : Nat) : BufTy := match i % 128 with
  | 0 => ⟨S64x64, .f32⟩
  | 1 => ⟨S10000x64, .f32⟩
  | 2 => ⟨S1x64, .f32⟩
  | 3 => ⟨S64, .f32⟩
  | 4 => ⟨S1x64, .f32⟩
  | 5 => ⟨S10000x64, .f32⟩
  | 6 => ⟨S10000x64, .f32⟩
  | 7 => ⟨S_, .i32⟩
  | 8 => ⟨S160000, .i32⟩
  | 9 => ⟨S160000, .i1⟩
  | 10 => ⟨S_, .i32⟩
  | 11 => ⟨S160000, .i32⟩
  | 12 => ⟨S160000, .i32⟩
  | 13 => ⟨S160000, .i32⟩
  | 14 => ⟨S160000x1, .i32⟩
  | 15 => ⟨S160000x64, .f32⟩
  | 16 => ⟨S_, .i32⟩
  | 17 => ⟨S160000, .i32⟩
  | 18 => ⟨S160000, .i1⟩
  | 19 => ⟨S_, .i32⟩
  | 20 => ⟨S160000, .i32⟩
  | 21 => ⟨S160000, .i32⟩
  | 22 => ⟨S160000, .i32⟩
  | 23 => ⟨S160000x1, .i32⟩
  | 24 => ⟨S160000x64, .f32⟩
  | 25 => ⟨S160000x64, .f32⟩
  | 26 => ⟨S1x64x64, .f32⟩
  | 27 => ⟨S64x64, .f32⟩
  | 28 => ⟨S160000x64, .f32⟩
  | 29 => ⟨S160000x64, .f32⟩
  | 30 => ⟨S1x64, .f32⟩
  | 31 => ⟨S64, .f32⟩
  | 32 => ⟨S1x64, .f32⟩
  | 33 => ⟨S160000x64, .f32⟩
  | 34 => ⟨S160000x64, .f32⟩
  | 35 => ⟨S160000x64, .f32⟩
  | 36 => ⟨S160000x64, .f32⟩
  | 37 => ⟨S_, .f32⟩
  | 38 => ⟨S160000x64, .f32⟩
  | 39 => ⟨S160000x64, .f32⟩
  | 40 => ⟨S_, .f32⟩
  | 41 => ⟨S160000x64, .f32⟩
  | 42 => ⟨S160000x64, .f32⟩
  | 43 => ⟨S_, .i32⟩
  | 44 => ⟨S160000, .i32⟩
  | 45 => ⟨S160000, .i1⟩
  | 46 => ⟨S_, .i32⟩
  | 47 => ⟨S160000, .i32⟩
  | 48 => ⟨S160000, .i32⟩
  | 49 => ⟨S160000, .i32⟩
  | 50 => ⟨S160000x1, .i32⟩
  | 51 => ⟨S160000x64, .f32⟩
  | 52 => ⟨S160000x64, .f32⟩
  | 53 => ⟨S_, .f32⟩
  | 54 => ⟨S10000x64, .f32⟩
  | 55 => ⟨S160000x1, .i32⟩
  | 56 => ⟨S10000x64, .f32⟩
  | 57 => ⟨S_, .f32⟩
  | 58 => ⟨S10000x64, .f32⟩
  | 59 => ⟨S160000x1, .i32⟩
  | 60 => ⟨S10000x64, .f32⟩
  | 61 => ⟨S1x64x64, .f32⟩
  | 62 => ⟨S64x64, .f32⟩
  | 63 => ⟨S10000x64, .f32⟩
  | 64 => ⟨S1x64, .f32⟩
  | 65 => ⟨S64, .f32⟩
  | 66 => ⟨S1x64, .f32⟩
  | 67 => ⟨S10000x64, .f32⟩
  | 68 => ⟨S10000x64, .f32⟩
  | 69 => ⟨S_, .f32⟩
  | 70 => ⟨S10000x64, .f32⟩
  | 71 => ⟨S10000x64, .f32⟩
  | 72 => ⟨S10000x64, .f32⟩
  | 73 => ⟨S10000x64, .f32⟩
  | 74 => ⟨S_, .f32⟩
  | 75 => ⟨S10000x64, .f32⟩
  | 76 => ⟨S10000x64, .f32⟩
  | 77 => ⟨S10000x64, .f32⟩
  | 78 => ⟨S_, .f32⟩
  | 79 => ⟨S160000x64, .f32⟩
  | 80 => ⟨S160000x64, .f32⟩
  | 81 => ⟨S160000x64, .f32⟩
  | 82 => ⟨S1x64x64, .f32⟩
  | 83 => ⟨S64x64, .f32⟩
  | 84 => ⟨S10000x64, .f32⟩
  | 85 => ⟨S1x64, .f32⟩
  | 86 => ⟨S64, .f32⟩
  | 87 => ⟨S1x64, .f32⟩
  | 88 => ⟨S10000x64, .f32⟩
  | 89 => ⟨S10000x64, .f32⟩
  | 90 => ⟨S1x64x64, .f32⟩
  | 91 => ⟨S64x64, .f32⟩
  | 92 => ⟨S10000x64, .f32⟩
  | 93 => ⟨S1x64, .f32⟩
  | 94 => ⟨S64, .f32⟩
  | 95 => ⟨S1x64, .f32⟩
  | 96 => ⟨S10000x64, .f32⟩
  | 97 => ⟨S10000x64, .f32⟩
  | 98 => ⟨S1x64x64, .f32⟩
  | 99 => ⟨S64x64, .f32⟩
  | 100 => ⟨S10000x64, .f32⟩
  | 101 => ⟨S1x64, .f32⟩
  | 102 => ⟨S64, .f32⟩
  | 103 => ⟨S1x64, .f32⟩
  | 104 => ⟨S10000x64, .f32⟩
  | 105 => ⟨S10000x64, .f32⟩
  | 106 => ⟨S_, .i32⟩
  | 107 => ⟨S160000, .i32⟩
  | 108 => ⟨S160000, .i1⟩
  | 109 => ⟨S_, .i32⟩
  | 110 => ⟨S160000, .i32⟩
  | 111 => ⟨S160000, .i32⟩
  | 112 => ⟨S160000, .i32⟩
  | 113 => ⟨S160000x1, .i32⟩
  | 114 => ⟨S160000x64, .f32⟩
  | 115 => ⟨S_, .i32⟩
  | 116 => ⟨S160000, .i32⟩
  | 117 => ⟨S160000, .i1⟩
  | 118 => ⟨S_, .i32⟩
  | 119 => ⟨S160000, .i32⟩
  | 120 => ⟨S160000, .i32⟩
  | 121 => ⟨S160000, .i32⟩
  | 122 => ⟨S160000x1, .i32⟩
  | 123 => ⟨S160000x64, .f32⟩
  | 124 => ⟨S160000x64, .f32⟩
  | 125 => ⟨S1x64x64, .f32⟩
  | 126 => ⟨S64x64, .f32⟩
  | 127 => ⟨S160000x64, .f32⟩
  | _ => ⟨S10000x4x128, .f32⟩

abbrev hbmTy0_3 (i : Nat) : BufTy := match i % 128 with
  | 0 => ⟨S160000x64, .f32⟩
  | 1 => ⟨S1x64, .f32⟩
  | 2 => ⟨S64, .f32⟩
  | 3 => ⟨S1x64, .f32⟩
  | 4 => ⟨S160000x64, .f32⟩
  | 5 => ⟨S160000x64, .f32⟩
  | 6 => ⟨S160000x64, .f32⟩
  | 7 => ⟨S160000x64, .f32⟩
  | 8 => ⟨S_, .f32⟩
  | 9 => ⟨S160000x64, .f32⟩
  | 10 => ⟨S160000x64, .f32⟩
  | 11 => ⟨S_, .f32⟩
  | 12 => ⟨S160000x64, .f32⟩
  | 13 => ⟨S160000x64, .f32⟩
  | 14 => ⟨S_, .i32⟩
  | 15 => ⟨S160000, .i32⟩
  | 16 => ⟨S160000, .i1⟩
  | 17 => ⟨S_, .i32⟩
  | 18 => ⟨S160000, .i32⟩
  | 19 => ⟨S160000, .i32⟩
  | 20 => ⟨S160000, .i32⟩
  | 21 => ⟨S160000x1, .i32⟩
  | 22 => ⟨S160000x64, .f32⟩
  | 23 => ⟨S160000x64, .f32⟩
  | 24 => ⟨S_, .f32⟩
  | 25 => ⟨S10000x64, .f32⟩
  | 26 => ⟨S160000x1, .i32⟩
  | 27 => ⟨S10000x64, .f32⟩
  | 28 => ⟨S_, .f32⟩
  | 29 => ⟨S10000x64, .f32⟩
  | 30 => ⟨S160000x1, .i32⟩
  | 31 => ⟨S10000x64, .f32⟩
  | 32 => ⟨S1x64x64, .f32⟩
  | 33 => ⟨S64x64, .f32⟩
  | 34 => ⟨S10000x64, .f32⟩
  | 35 => ⟨S1x64, .f32⟩
  | 36 => ⟨S64, .f32⟩
  | 37 => ⟨S1x64, .f32⟩
  | 38 => ⟨S10000x64, .f32⟩
  | 39 => ⟨S10000x64, .f32⟩
  | 40 => ⟨S_, .f32⟩
  | 41 => ⟨S10000x64, .f32⟩
  | 42 => ⟨S10000x64, .f32⟩
  | 43 => ⟨S10000x64, .f32⟩
  | 44 => ⟨S10000x64, .f32⟩
  | 45 => ⟨S_, .f32⟩
  | 46 => ⟨S10000x64, .f32⟩
  | 47 => ⟨S10000x64, .f32⟩
  | 48 => ⟨S10000x64, .f32⟩
  | 49 => ⟨S_, .f32⟩
  | 50 => ⟨S160000x64, .f32⟩
  | 51 => ⟨S160000x64, .f32⟩
  | 52 => ⟨S160000x64, .f32⟩
  | 53 => ⟨S1x64x64, .f32⟩
  | 54 => ⟨S64x64, .f32⟩
  | 55 => ⟨S10000x64, .f32⟩
  | 56 => ⟨S1x64, .f32⟩
  | 57 => ⟨S64, .f32⟩
  | 58 => ⟨S1x64, .f32⟩
  | 59 => ⟨S10000x64, .f32⟩
  | 60 => ⟨S10000x64, .f32⟩
  | 61 => ⟨S1x64x64, .f32⟩
  | 62 => ⟨S64x64, .f32⟩
  | 63 => ⟨S10000x64, .f32⟩
  | 64 => ⟨S1x64, .f32⟩
  | 65 => ⟨S64, .f32⟩
  | 66 => ⟨S1x64, .f32⟩
  | 67 => ⟨S10000x64, .f32⟩
  | 68 => ⟨S10000x64, .f32⟩
  | 69 => ⟨S1x64x64, .f32⟩
  | 70 => ⟨S64x64, .f32⟩
  | 71 => ⟨S10000x64, .f32⟩
  | 72 => ⟨S1x64, .f32⟩
  | 73 => ⟨S64, .f32⟩
  | 74 => ⟨S1x64, .f32⟩
  | 75 => ⟨S10000x64, .f32⟩
  | 76 => ⟨S10000x64, .f32⟩
  | 77 => ⟨S_, .i32⟩
  | 78 => ⟨S160000, .i32⟩
  | 79 => ⟨S160000, .i1⟩
  | 80 => ⟨S_, .i32⟩
  | 81 => ⟨S160000, .i32⟩
  | 82 => ⟨S160000, .i32⟩
  | 83 => ⟨S160000, .i32⟩
  | 84 => ⟨S160000x1, .i32⟩
  | 85 => ⟨S160000x64, .f32⟩
  | 86 => ⟨S_, .i32⟩
  | 87 => ⟨S160000, .i32⟩
  | 88 => ⟨S160000, .i1⟩
  | 89 => ⟨S_, .i32⟩
  | 90 => ⟨S160000, .i32⟩
  | 91 => ⟨S160000, .i32⟩
  | 92 => ⟨S160000, .i32⟩
  | 93 => ⟨S160000x1, .i32⟩
  | 94 => ⟨S160000x64, .f32⟩
  | 95 => ⟨S160000x64, .f32⟩
  | 96 => ⟨S1x64x64, .f32⟩
  | 97 => ⟨S64x64, .f32⟩
  | 98 => ⟨S160000x64, .f32⟩
  | 99 => ⟨S160000x64, .f32⟩
  | 100 => ⟨S1x64, .f32⟩
  | 101 => ⟨S64, .f32⟩
  | 102 => ⟨S1x64, .f32⟩
  | 103 => ⟨S160000x64, .f32⟩
  | 104 => ⟨S160000x64, .f32⟩
  | 105 => ⟨S160000x64, .f32⟩
  | 106 => ⟨S160000x64, .f32⟩
  | 107 => ⟨S_, .f32⟩
  | 108 => ⟨S160000x64, .f32⟩
  | 109 => ⟨S160000x64, .f32⟩
  | 110 => ⟨S_, .f32⟩
  | 111 => ⟨S160000x64, .f32⟩
  | 112 => ⟨S160000x64, .f32⟩
  | 113 => ⟨S_, .i32⟩
  | 114 => ⟨S160000, .i32⟩
  | 115 => ⟨S160000, .i1⟩
  | 116 => ⟨S_, .i32⟩
  | 117 => ⟨S160000, .i32⟩
  | 118 => ⟨S160000, .i32⟩
  | 119 => ⟨S160000, .i32⟩
  | 120 => ⟨S160000x1, .i32⟩
  | 121 => ⟨S160000x64, .f32⟩
  | 122 => ⟨S160000x64, .f32⟩
  | 123 => ⟨S_, .f32⟩
  | 124 => ⟨S10000x64, .f32⟩
  | 125 => ⟨S160000x1, .i32⟩
  | 126 => ⟨S10000x64, .f32⟩
  | 127 => ⟨S_, .f32⟩
  | _ => ⟨S10000x4x128, .f32⟩

abbrev hbmTy0_4 (i : Nat) : BufTy := match i % 128 with
  | 0 => ⟨S10000x64, .f32⟩
  | 1 => ⟨S160000x1, .i32⟩
  | 2 => ⟨S10000x64, .f32⟩
  | 3 => ⟨S1x64x64, .f32⟩
  | 4 => ⟨S64x64, .f32⟩
  | 5 => ⟨S10000x64, .f32⟩
  | 6 => ⟨S1x64, .f32⟩
  | 7 => ⟨S64, .f32⟩
  | 8 => ⟨S1x64, .f32⟩
  | 9 => ⟨S10000x64, .f32⟩
  | 10 => ⟨S10000x64, .f32⟩
  | 11 => ⟨S_, .f32⟩
  | 12 => ⟨S10000x64, .f32⟩
  | 13 => ⟨S10000x64, .f32⟩
  | 14 => ⟨S10000x64, .f32⟩
  | 15 => ⟨S10000x64, .f32⟩
  | 16 => ⟨S_, .f32⟩
  | 17 => ⟨S10000x64, .f32⟩
  | 18 => ⟨S10000x64, .f32⟩
  | 19 => ⟨S10000x64, .f32⟩
  | 20 => ⟨S_, .f32⟩
  | 21 => ⟨S160000x64, .f32⟩
  | 22 => ⟨S160000x64, .f32⟩
  | 23 => ⟨S160000x64, .f32⟩
  | 24 => ⟨S_, .i32⟩
  | 25 => ⟨S160000, .i32⟩
  | 26 => ⟨S160000, .i1⟩
  | 27 => ⟨S_, .i32⟩
  | 28 => ⟨S160000, .i32⟩
  | 29 => ⟨S160000, .i32⟩
  | 30 => ⟨S160000, .i32⟩
  | 31 => ⟨S160000x1, .i32⟩
  | 32 => ⟨S160000x64, .f32⟩
  | 33 => ⟨S_, .i32⟩
  | 34 => ⟨S160000, .i32⟩
  | 35 => ⟨S160000, .i1⟩
  | 36 => ⟨S_, .i32⟩
  | 37 => ⟨S160000, .i32⟩
  | 38 => ⟨S160000, .i32⟩
  | 39 => ⟨S160000, .i32⟩
  | 40 => ⟨S160000x1, .i32⟩
  | 41 => ⟨S160000x64, .f32⟩
  | 42 => ⟨S160000x192, .f32⟩
  | 43 => ⟨S160000x64, .f32⟩
  | 44 => ⟨S1x64, .f32⟩
  | 45 => ⟨S160000x64, .f32⟩
  | 46 => ⟨S160000x64, .f32⟩
  | 47 => ⟨S_, .f32⟩
  | 48 => ⟨S160000x64, .f32⟩
  | 49 => ⟨S160000x64, .f32⟩
  | 50 => ⟨S160000x1, .f32⟩
  | 51 => ⟨S1x1, .f32⟩
  | 52 => ⟨S160000x1, .f32⟩
  | 53 => ⟨S160000x1, .f32⟩
  | _ => ⟨S10000x4x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S10000x4x128, .f32⟩

abbrev bufTy : (tb : Table) → Fin (tcTables nBuf tb) → BufTy
  | .hbm, ⟨i, _⟩ => hbmTy i
  | _, _ => ⟨S10000x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_cst : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_call0_cst : Ref sig .tc := ⟨.hbm, 127, rfl⟩
abbrev main_call0_v0 : Ref sig .tc := ⟨.hbm, 128, rfl⟩
abbrev main_v104 : Ref sig .tc := ⟨.hbm, 129, rfl⟩
abbrev main_cst_0 : Ref sig .tc := ⟨.hbm, 130, rfl⟩
abbrev main_v105 : Ref sig .tc := ⟨.hbm, 131, rfl⟩
abbrev main_cst_1 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_c : Ref sig .tc := ⟨.hbm, 164, rfl⟩
abbrev main_v137 : Ref sig .tc := ⟨.hbm, 165, rfl⟩
abbrev main_v138 : Ref sig .tc := ⟨.hbm, 166, rfl⟩
abbrev main_c_2 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_c_3 : Ref sig .tc := ⟨.hbm, 173, rfl⟩
abbrev main_v144 : Ref sig .tc := ⟨.hbm, 174, rfl⟩
abbrev main_v145 : Ref sig .tc := ⟨.hbm, 175, rfl⟩
abbrev main_c_4 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_cst_5 : Ref sig .tc := ⟨.hbm, 194, rfl⟩
abbrev main_v163 : Ref sig .tc := ⟨.hbm, 195, rfl⟩
abbrev main_v164 : Ref sig .tc := ⟨.hbm, 196, rfl⟩
abbrev main_cst_6 : Ref sig .tc := ⟨.hbm, 197, rfl⟩
abbrev main_v165 : Ref sig .tc := ⟨.hbm, 198, rfl⟩
abbrev main_v166 : Ref sig .tc := ⟨.hbm, 199, rfl⟩
abbrev main_c_7 : Ref sig .tc := ⟨.hbm, 200, rfl⟩
abbrev main_v167 : Ref sig .tc := ⟨.hbm, 201, rfl⟩
abbrev main_v168 : Ref sig .tc := ⟨.hbm, 202, rfl⟩
abbrev main_c_8 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_cst_9 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_cst_10 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_v187 : Ref sig .tc := ⟨.hbm, 224, rfl⟩
abbrev main_v188 : Ref sig .tc := ⟨.hbm, 225, rfl⟩
abbrev main_cst_11 : Ref sig .tc := ⟨.hbm, 226, rfl⟩
abbrev main_v189 : Ref sig .tc := ⟨.hbm, 227, rfl⟩
abbrev main_v190 : Ref sig .tc := ⟨.hbm, 228, rfl⟩
abbrev main_v191 : Ref sig .tc := ⟨.hbm, 229, rfl⟩
abbrev main_v192 : Ref sig .tc := ⟨.hbm, 230, rfl⟩
abbrev main_call1_cst : Ref sig .tc := ⟨.hbm, 231, rfl⟩
abbrev main_call1_v0 : Ref sig .tc := ⟨.hbm, 232, rfl⟩
abbrev main_v193 : Ref sig .tc := ⟨.hbm, 233, rfl⟩
abbrev main_v194 : Ref sig .tc := ⟨.hbm, 234, rfl⟩
abbrev main_call2_cst : Ref sig .tc := ⟨.hbm, 235, rfl⟩
abbrev main_call2_v0 : Ref sig .tc := ⟨.hbm, 236, rfl⟩
abbrev main_v195 : Ref sig .tc := ⟨.hbm, 237, rfl⟩
abbrev main_v196 : Ref sig .tc := ⟨.hbm, 238, rfl⟩
abbrev main_v197 : Ref sig .tc := ⟨.hbm, 239, rfl⟩
abbrev main_v198 : Ref sig .tc := ⟨.hbm, 240, rfl⟩
abbrev main_v199 : Ref sig .tc := ⟨.hbm, 241, rfl⟩
abbrev main_v200 : Ref sig .tc := ⟨.hbm, 242, rfl⟩
abbrev main_v201 : Ref sig .tc := ⟨.hbm, 243, rfl⟩
abbrev main_v202 : Ref sig .tc := ⟨.hbm, 244, rfl⟩
abbrev main_v203 : Ref sig .tc := ⟨.hbm, 245, rfl⟩
abbrev main_v204 : Ref sig .tc := ⟨.hbm, 246, rfl⟩
abbrev main_v205 : Ref sig .tc := ⟨.hbm, 247, rfl⟩
abbrev main_v206 : Ref sig .tc := ⟨.hbm, 248, rfl⟩
abbrev main_v207 : Ref sig .tc := ⟨.hbm, 249, rfl⟩
abbrev main_v208 : Ref sig .tc := ⟨.hbm, 250, rfl⟩
abbrev main_v209 : Ref sig .tc := ⟨.hbm, 251, rfl⟩
abbrev main_v210 : Ref sig .tc := ⟨.hbm, 252, rfl⟩
abbrev main_v211 : Ref sig .tc := ⟨.hbm, 253, rfl⟩
abbrev main_v212 : Ref sig .tc := ⟨.hbm, 254, rfl⟩
abbrev main_v213 : Ref sig .tc := ⟨.hbm, 255, rfl⟩
abbrev main_v214 : Ref sig .tc := ⟨.hbm, 256, rfl⟩
abbrev main_v215 : Ref sig .tc := ⟨.hbm, 257, rfl⟩
abbrev main_v216 : Ref sig .tc := ⟨.hbm, 258, rfl⟩
abbrev main_v217 : Ref sig .tc := ⟨.hbm, 259, rfl⟩
abbrev main_v218 : Ref sig .tc := ⟨.hbm, 260, rfl⟩
abbrev main_v219 : Ref sig .tc := ⟨.hbm, 261, rfl⟩
abbrev main_v220 : Ref sig .tc := ⟨.hbm, 262, rfl⟩
abbrev main_c_12 : Ref sig .tc := ⟨.hbm, 263, rfl⟩
abbrev main_v221 : Ref sig .tc := ⟨.hbm, 264, rfl⟩
abbrev main_v222 : Ref sig .tc := ⟨.hbm, 265, rfl⟩
abbrev main_c_13 : Ref sig .tc := ⟨.hbm, 266, rfl⟩
abbrev main_v223 : Ref sig .tc := ⟨.hbm, 267, rfl⟩
abbrev main_v224 : Ref sig .tc := ⟨.hbm, 268, rfl⟩
abbrev main_v225 : Ref sig .tc := ⟨.hbm, 269, rfl⟩
abbrev main_v226 : Ref sig .tc := ⟨.hbm, 270, rfl⟩
abbrev main_v227 : Ref sig .tc := ⟨.hbm, 271, rfl⟩
abbrev main_c_14 : Ref sig .tc := ⟨.hbm, 272, rfl⟩
abbrev main_v228 : Ref sig .tc := ⟨.hbm, 273, rfl⟩
abbrev main_v229 : Ref sig .tc := ⟨.hbm, 274, rfl⟩
abbrev main_c_15 : Ref sig .tc := ⟨.hbm, 275, rfl⟩
abbrev main_v230 : Ref sig .tc := ⟨.hbm, 276, rfl⟩
abbrev main_v231 : Ref sig .tc := ⟨.hbm, 277, rfl⟩
abbrev main_v232 : Ref sig .tc := ⟨.hbm, 278, rfl⟩
abbrev main_v233 : Ref sig .tc := ⟨.hbm, 279, rfl⟩
abbrev main_v234 : Ref sig .tc := ⟨.hbm, 280, rfl⟩
abbrev main_v235 : Ref sig .tc := ⟨.hbm, 281, rfl⟩
abbrev main_v236 : Ref sig .tc := ⟨.hbm, 282, rfl⟩
abbrev main_v237 : Ref sig .tc := ⟨.hbm, 283, rfl⟩
abbrev main_v238 : Ref sig .tc := ⟨.hbm, 284, rfl⟩
abbrev main_v239 : Ref sig .tc := ⟨.hbm, 285, rfl⟩
abbrev main_v240 : Ref sig .tc := ⟨.hbm, 286, rfl⟩
abbrev main_v241 : Ref sig .tc := ⟨.hbm, 287, rfl⟩
abbrev main_v242 : Ref sig .tc := ⟨.hbm, 288, rfl⟩
abbrev main_v243 : Ref sig .tc := ⟨.hbm, 289, rfl⟩
abbrev main_v244 : Ref sig .tc := ⟨.hbm, 290, rfl⟩
abbrev main_v245 : Ref sig .tc := ⟨.hbm, 291, rfl⟩
abbrev main_v246 : Ref sig .tc := ⟨.hbm, 292, rfl⟩
abbrev main_cst_16 : Ref sig .tc := ⟨.hbm, 293, rfl⟩
abbrev main_v247 : Ref sig .tc := ⟨.hbm, 294, rfl⟩
abbrev main_v248 : Ref sig .tc := ⟨.hbm, 295, rfl⟩
abbrev main_cst_17 : Ref sig .tc := ⟨.hbm, 296, rfl⟩
abbrev main_v249 : Ref sig .tc := ⟨.hbm, 297, rfl⟩
abbrev main_v250 : Ref sig .tc := ⟨.hbm, 298, rfl⟩
abbrev main_c_18 : Ref sig .tc := ⟨.hbm, 299, rfl⟩
abbrev main_v251 : Ref sig .tc := ⟨.hbm, 300, rfl⟩
abbrev main_v252 : Ref sig .tc := ⟨.hbm, 301, rfl⟩
abbrev main_c_19 : Ref sig .tc := ⟨.hbm, 302, rfl⟩
abbrev main_v253 : Ref sig .tc := ⟨.hbm, 303, rfl⟩
abbrev main_v254 : Ref sig .tc := ⟨.hbm, 304, rfl⟩
abbrev main_v255 : Ref sig .tc := ⟨.hbm, 305, rfl⟩
abbrev main_v256 : Ref sig .tc := ⟨.hbm, 306, rfl⟩
abbrev main_v257 : Ref sig .tc := ⟨.hbm, 307, rfl⟩
abbrev main_v258 : Ref sig .tc := ⟨.hbm, 308, rfl⟩
abbrev main_cst_20 : Ref sig .tc := ⟨.hbm, 309, rfl⟩
abbrev main_v259 : Ref sig .tc := ⟨.hbm, 310, rfl⟩
abbrev main_v260 : Ref sig .tc := ⟨.hbm, 311, rfl⟩
abbrev main_v261 : Ref sig .tc := ⟨.hbm, 312, rfl⟩
abbrev main_cst_21 : Ref sig .tc := ⟨.hbm, 313, rfl⟩
abbrev main_v262 : Ref sig .tc := ⟨.hbm, 314, rfl⟩
abbrev main_v263 : Ref sig .tc := ⟨.hbm, 315, rfl⟩
abbrev main_v264 : Ref sig .tc := ⟨.hbm, 316, rfl⟩
abbrev main_v265 : Ref sig .tc := ⟨.hbm, 317, rfl⟩
abbrev main_v266 : Ref sig .tc := ⟨.hbm, 318, rfl⟩
abbrev main_v267 : Ref sig .tc := ⟨.hbm, 319, rfl⟩
abbrev main_v268 : Ref sig .tc := ⟨.hbm, 320, rfl⟩
abbrev main_v269 : Ref sig .tc := ⟨.hbm, 321, rfl⟩
abbrev main_v270 : Ref sig .tc := ⟨.hbm, 322, rfl⟩
abbrev main_v271 : Ref sig .tc := ⟨.hbm, 323, rfl⟩
abbrev main_v272 : Ref sig .tc := ⟨.hbm, 324, rfl⟩
abbrev main_cst_22 : Ref sig .tc := ⟨.hbm, 325, rfl⟩
abbrev main_v273 : Ref sig .tc := ⟨.hbm, 326, rfl⟩
abbrev main_v274 : Ref sig .tc := ⟨.hbm, 327, rfl⟩
abbrev main_v275 : Ref sig .tc := ⟨.hbm, 328, rfl⟩
abbrev main_v276 : Ref sig .tc := ⟨.hbm, 329, rfl⟩
abbrev main_call3_cst : Ref sig .tc := ⟨.hbm, 330, rfl⟩
abbrev main_call3_v0 : Ref sig .tc := ⟨.hbm, 331, rfl⟩
abbrev main_v277 : Ref sig .tc := ⟨.hbm, 332, rfl⟩
abbrev main_v278 : Ref sig .tc := ⟨.hbm, 333, rfl⟩
abbrev main_call4_cst : Ref sig .tc := ⟨.hbm, 334, rfl⟩
abbrev main_call4_v0 : Ref sig .tc := ⟨.hbm, 335, rfl⟩
abbrev main_v279 : Ref sig .tc := ⟨.hbm, 336, rfl⟩
abbrev main_v280 : Ref sig .tc := ⟨.hbm, 337, rfl⟩
abbrev main_v281 : Ref sig .tc := ⟨.hbm, 338, rfl⟩
abbrev main_v282 : Ref sig .tc := ⟨.hbm, 339, rfl⟩
abbrev main_v283 : Ref sig .tc := ⟨.hbm, 340, rfl⟩
abbrev main_v284 : Ref sig .tc := ⟨.hbm, 341, rfl⟩
abbrev main_v285 : Ref sig .tc := ⟨.hbm, 342, rfl⟩
abbrev main_v286 : Ref sig .tc := ⟨.hbm, 343, rfl⟩
abbrev main_v287 : Ref sig .tc := ⟨.hbm, 344, rfl⟩
abbrev main_v288 : Ref sig .tc := ⟨.hbm, 345, rfl⟩
abbrev main_v289 : Ref sig .tc := ⟨.hbm, 346, rfl⟩
abbrev main_v290 : Ref sig .tc := ⟨.hbm, 347, rfl⟩
abbrev main_v291 : Ref sig .tc := ⟨.hbm, 348, rfl⟩
abbrev main_v292 : Ref sig .tc := ⟨.hbm, 349, rfl⟩
abbrev main_v293 : Ref sig .tc := ⟨.hbm, 350, rfl⟩
abbrev main_v294 : Ref sig .tc := ⟨.hbm, 351, rfl⟩
abbrev main_v295 : Ref sig .tc := ⟨.hbm, 352, rfl⟩
abbrev main_v296 : Ref sig .tc := ⟨.hbm, 353, rfl⟩
abbrev main_v297 : Ref sig .tc := ⟨.hbm, 354, rfl⟩
abbrev main_v298 : Ref sig .tc := ⟨.hbm, 355, rfl⟩
abbrev main_v299 : Ref sig .tc := ⟨.hbm, 356, rfl⟩
abbrev main_v300 : Ref sig .tc := ⟨.hbm, 357, rfl⟩
abbrev main_v301 : Ref sig .tc := ⟨.hbm, 358, rfl⟩
abbrev main_v302 : Ref sig .tc := ⟨.hbm, 359, rfl⟩
abbrev main_v303 : Ref sig .tc := ⟨.hbm, 360, rfl⟩
abbrev main_v304 : Ref sig .tc := ⟨.hbm, 361, rfl⟩
abbrev main_c_23 : Ref sig .tc := ⟨.hbm, 362, rfl⟩
abbrev main_v305 : Ref sig .tc := ⟨.hbm, 363, rfl⟩
abbrev main_v306 : Ref sig .tc := ⟨.hbm, 364, rfl⟩
abbrev main_c_24 : Ref sig .tc := ⟨.hbm, 365, rfl⟩
abbrev main_v307 : Ref sig .tc := ⟨.hbm, 366, rfl⟩
abbrev main_v308 : Ref sig .tc := ⟨.hbm, 367, rfl⟩
abbrev main_v309 : Ref sig .tc := ⟨.hbm, 368, rfl⟩
abbrev main_v310 : Ref sig .tc := ⟨.hbm, 369, rfl⟩
abbrev main_v311 : Ref sig .tc := ⟨.hbm, 370, rfl⟩
abbrev main_c_25 : Ref sig .tc := ⟨.hbm, 371, rfl⟩
abbrev main_v312 : Ref sig .tc := ⟨.hbm, 372, rfl⟩
abbrev main_v313 : Ref sig .tc := ⟨.hbm, 373, rfl⟩
abbrev main_c_26 : Ref sig .tc := ⟨.hbm, 374, rfl⟩
abbrev main_v314 : Ref sig .tc := ⟨.hbm, 375, rfl⟩
abbrev main_v315 : Ref sig .tc := ⟨.hbm, 376, rfl⟩
abbrev main_v316 : Ref sig .tc := ⟨.hbm, 377, rfl⟩
abbrev main_v317 : Ref sig .tc := ⟨.hbm, 378, rfl⟩
abbrev main_v318 : Ref sig .tc := ⟨.hbm, 379, rfl⟩
abbrev main_v319 : Ref sig .tc := ⟨.hbm, 380, rfl⟩
abbrev main_v320 : Ref sig .tc := ⟨.hbm, 381, rfl⟩
abbrev main_v321 : Ref sig .tc := ⟨.hbm, 382, rfl⟩
abbrev main_v322 : Ref sig .tc := ⟨.hbm, 383, rfl⟩
abbrev main_v323 : Ref sig .tc := ⟨.hbm, 384, rfl⟩
abbrev main_v324 : Ref sig .tc := ⟨.hbm, 385, rfl⟩
abbrev main_v325 : Ref sig .tc := ⟨.hbm, 386, rfl⟩
abbrev main_v326 : Ref sig .tc := ⟨.hbm, 387, rfl⟩
abbrev main_v327 : Ref sig .tc := ⟨.hbm, 388, rfl⟩
abbrev main_v328 : Ref sig .tc := ⟨.hbm, 389, rfl⟩
abbrev main_v329 : Ref sig .tc := ⟨.hbm, 390, rfl⟩
abbrev main_v330 : Ref sig .tc := ⟨.hbm, 391, rfl⟩
abbrev main_cst_27 : Ref sig .tc := ⟨.hbm, 392, rfl⟩
abbrev main_v331 : Ref sig .tc := ⟨.hbm, 393, rfl⟩
abbrev main_v332 : Ref sig .tc := ⟨.hbm, 394, rfl⟩
abbrev main_cst_28 : Ref sig .tc := ⟨.hbm, 395, rfl⟩
abbrev main_v333 : Ref sig .tc := ⟨.hbm, 396, rfl⟩
abbrev main_v334 : Ref sig .tc := ⟨.hbm, 397, rfl⟩
abbrev main_c_29 : Ref sig .tc := ⟨.hbm, 398, rfl⟩
abbrev main_v335 : Ref sig .tc := ⟨.hbm, 399, rfl⟩
abbrev main_v336 : Ref sig .tc := ⟨.hbm, 400, rfl⟩
abbrev main_c_30 : Ref sig .tc := ⟨.hbm, 401, rfl⟩
abbrev main_v337 : Ref sig .tc := ⟨.hbm, 402, rfl⟩
abbrev main_v338 : Ref sig .tc := ⟨.hbm, 403, rfl⟩
abbrev main_v339 : Ref sig .tc := ⟨.hbm, 404, rfl⟩
abbrev main_v340 : Ref sig .tc := ⟨.hbm, 405, rfl⟩
abbrev main_v341 : Ref sig .tc := ⟨.hbm, 406, rfl⟩
abbrev main_v342 : Ref sig .tc := ⟨.hbm, 407, rfl⟩
abbrev main_cst_31 : Ref sig .tc := ⟨.hbm, 408, rfl⟩
abbrev main_v343 : Ref sig .tc := ⟨.hbm, 409, rfl⟩
abbrev main_v344 : Ref sig .tc := ⟨.hbm, 410, rfl⟩
abbrev main_v345 : Ref sig .tc := ⟨.hbm, 411, rfl⟩
abbrev main_cst_32 : Ref sig .tc := ⟨.hbm, 412, rfl⟩
abbrev main_v346 : Ref sig .tc := ⟨.hbm, 413, rfl⟩
abbrev main_v347 : Ref sig .tc := ⟨.hbm, 414, rfl⟩
abbrev main_v348 : Ref sig .tc := ⟨.hbm, 415, rfl⟩
abbrev main_v349 : Ref sig .tc := ⟨.hbm, 416, rfl⟩
abbrev main_v350 : Ref sig .tc := ⟨.hbm, 417, rfl⟩
abbrev main_v351 : Ref sig .tc := ⟨.hbm, 418, rfl⟩
abbrev main_v352 : Ref sig .tc := ⟨.hbm, 419, rfl⟩
abbrev main_v353 : Ref sig .tc := ⟨.hbm, 420, rfl⟩
abbrev main_v354 : Ref sig .tc := ⟨.hbm, 421, rfl⟩
abbrev main_v355 : Ref sig .tc := ⟨.hbm, 422, rfl⟩
abbrev main_v356 : Ref sig .tc := ⟨.hbm, 423, rfl⟩
abbrev main_cst_33 : Ref sig .tc := ⟨.hbm, 424, rfl⟩
abbrev main_v357 : Ref sig .tc := ⟨.hbm, 425, rfl⟩
abbrev main_v358 : Ref sig .tc := ⟨.hbm, 426, rfl⟩
abbrev main_v359 : Ref sig .tc := ⟨.hbm, 427, rfl⟩
abbrev main_v360 : Ref sig .tc := ⟨.hbm, 428, rfl⟩
abbrev main_call5_cst : Ref sig .tc := ⟨.hbm, 429, rfl⟩
abbrev main_call5_v0 : Ref sig .tc := ⟨.hbm, 430, rfl⟩
abbrev main_v361 : Ref sig .tc := ⟨.hbm, 431, rfl⟩
abbrev main_v362 : Ref sig .tc := ⟨.hbm, 432, rfl⟩
abbrev main_call6_cst : Ref sig .tc := ⟨.hbm, 433, rfl⟩
abbrev main_call6_v0 : Ref sig .tc := ⟨.hbm, 434, rfl⟩
abbrev main_v363 : Ref sig .tc := ⟨.hbm, 435, rfl⟩
abbrev main_v364 : Ref sig .tc := ⟨.hbm, 436, rfl⟩
abbrev main_v365 : Ref sig .tc := ⟨.hbm, 437, rfl⟩
abbrev main_v366 : Ref sig .tc := ⟨.hbm, 438, rfl⟩
abbrev main_v367 : Ref sig .tc := ⟨.hbm, 439, rfl⟩
abbrev main_v368 : Ref sig .tc := ⟨.hbm, 440, rfl⟩
abbrev main_v369 : Ref sig .tc := ⟨.hbm, 441, rfl⟩
abbrev main_v370 : Ref sig .tc := ⟨.hbm, 442, rfl⟩
abbrev main_v371 : Ref sig .tc := ⟨.hbm, 443, rfl⟩
abbrev main_v372 : Ref sig .tc := ⟨.hbm, 444, rfl⟩
abbrev main_v373 : Ref sig .tc := ⟨.hbm, 445, rfl⟩
abbrev main_v374 : Ref sig .tc := ⟨.hbm, 446, rfl⟩
abbrev main_v375 : Ref sig .tc := ⟨.hbm, 447, rfl⟩
abbrev main_v376 : Ref sig .tc := ⟨.hbm, 448, rfl⟩
abbrev main_v377 : Ref sig .tc := ⟨.hbm, 449, rfl⟩
abbrev main_v378 : Ref sig .tc := ⟨.hbm, 450, rfl⟩
abbrev main_v379 : Ref sig .tc := ⟨.hbm, 451, rfl⟩
abbrev main_v380 : Ref sig .tc := ⟨.hbm, 452, rfl⟩
abbrev main_v381 : Ref sig .tc := ⟨.hbm, 453, rfl⟩
abbrev main_v382 : Ref sig .tc := ⟨.hbm, 454, rfl⟩
abbrev main_v383 : Ref sig .tc := ⟨.hbm, 455, rfl⟩
abbrev main_v384 : Ref sig .tc := ⟨.hbm, 456, rfl⟩
abbrev main_v385 : Ref sig .tc := ⟨.hbm, 457, rfl⟩
abbrev main_v386 : Ref sig .tc := ⟨.hbm, 458, rfl⟩
abbrev main_v387 : Ref sig .tc := ⟨.hbm, 459, rfl⟩
abbrev main_v388 : Ref sig .tc := ⟨.hbm, 460, rfl⟩
abbrev main_c_34 : Ref sig .tc := ⟨.hbm, 461, rfl⟩
abbrev main_v389 : Ref sig .tc := ⟨.hbm, 462, rfl⟩
abbrev main_v390 : Ref sig .tc := ⟨.hbm, 463, rfl⟩
abbrev main_c_35 : Ref sig .tc := ⟨.hbm, 464, rfl⟩
abbrev main_v391 : Ref sig .tc := ⟨.hbm, 465, rfl⟩
abbrev main_v392 : Ref sig .tc := ⟨.hbm, 466, rfl⟩
abbrev main_v393 : Ref sig .tc := ⟨.hbm, 467, rfl⟩
abbrev main_v394 : Ref sig .tc := ⟨.hbm, 468, rfl⟩
abbrev main_v395 : Ref sig .tc := ⟨.hbm, 469, rfl⟩
abbrev main_c_36 : Ref sig .tc := ⟨.hbm, 470, rfl⟩
abbrev main_v396 : Ref sig .tc := ⟨.hbm, 471, rfl⟩
abbrev main_v397 : Ref sig .tc := ⟨.hbm, 472, rfl⟩
abbrev main_c_37 : Ref sig .tc := ⟨.hbm, 473, rfl⟩
abbrev main_v398 : Ref sig .tc := ⟨.hbm, 474, rfl⟩
abbrev main_v399 : Ref sig .tc := ⟨.hbm, 475, rfl⟩
abbrev main_v400 : Ref sig .tc := ⟨.hbm, 476, rfl⟩
abbrev main_v401 : Ref sig .tc := ⟨.hbm, 477, rfl⟩
abbrev main_v402 : Ref sig .tc := ⟨.hbm, 478, rfl⟩
abbrev main_v403 : Ref sig .tc := ⟨.hbm, 479, rfl⟩
abbrev main_v404 : Ref sig .tc := ⟨.hbm, 480, rfl⟩
abbrev main_v405 : Ref sig .tc := ⟨.hbm, 481, rfl⟩
abbrev main_v406 : Ref sig .tc := ⟨.hbm, 482, rfl⟩
abbrev main_v407 : Ref sig .tc := ⟨.hbm, 483, rfl⟩
abbrev main_v408 : Ref sig .tc := ⟨.hbm, 484, rfl⟩
abbrev main_v409 : Ref sig .tc := ⟨.hbm, 485, rfl⟩
abbrev main_v410 : Ref sig .tc := ⟨.hbm, 486, rfl⟩
abbrev main_v411 : Ref sig .tc := ⟨.hbm, 487, rfl⟩
abbrev main_v412 : Ref sig .tc := ⟨.hbm, 488, rfl⟩
abbrev main_v413 : Ref sig .tc := ⟨.hbm, 489, rfl⟩
abbrev main_v414 : Ref sig .tc := ⟨.hbm, 490, rfl⟩
abbrev main_cst_38 : Ref sig .tc := ⟨.hbm, 491, rfl⟩
abbrev main_v415 : Ref sig .tc := ⟨.hbm, 492, rfl⟩
abbrev main_v416 : Ref sig .tc := ⟨.hbm, 493, rfl⟩
abbrev main_cst_39 : Ref sig .tc := ⟨.hbm, 494, rfl⟩
abbrev main_v417 : Ref sig .tc := ⟨.hbm, 495, rfl⟩
abbrev main_v418 : Ref sig .tc := ⟨.hbm, 496, rfl⟩
abbrev main_c_40 : Ref sig .tc := ⟨.hbm, 497, rfl⟩
abbrev main_v419 : Ref sig .tc := ⟨.hbm, 498, rfl⟩
abbrev main_v420 : Ref sig .tc := ⟨.hbm, 499, rfl⟩
abbrev main_c_41 : Ref sig .tc := ⟨.hbm, 500, rfl⟩
abbrev main_v421 : Ref sig .tc := ⟨.hbm, 501, rfl⟩
abbrev main_v422 : Ref sig .tc := ⟨.hbm, 502, rfl⟩
abbrev main_v423 : Ref sig .tc := ⟨.hbm, 503, rfl⟩
abbrev main_v424 : Ref sig .tc := ⟨.hbm, 504, rfl⟩
abbrev main_v425 : Ref sig .tc := ⟨.hbm, 505, rfl⟩
abbrev main_v426 : Ref sig .tc := ⟨.hbm, 506, rfl⟩
abbrev main_cst_42 : Ref sig .tc := ⟨.hbm, 507, rfl⟩
abbrev main_v427 : Ref sig .tc := ⟨.hbm, 508, rfl⟩
abbrev main_v428 : Ref sig .tc := ⟨.hbm, 509, rfl⟩
abbrev main_v429 : Ref sig .tc := ⟨.hbm, 510, rfl⟩
abbrev main_cst_43 : Ref sig .tc := ⟨.hbm, 511, rfl⟩
abbrev main_v430 : Ref sig .tc := ⟨.hbm, 512, rfl⟩
abbrev main_v431 : Ref sig .tc := ⟨.hbm, 513, rfl⟩
abbrev main_v432 : Ref sig .tc := ⟨.hbm, 514, rfl⟩
abbrev main_v433 : Ref sig .tc := ⟨.hbm, 515, rfl⟩
abbrev main_v434 : Ref sig .tc := ⟨.hbm, 516, rfl⟩
abbrev main_v435 : Ref sig .tc := ⟨.hbm, 517, rfl⟩
abbrev main_v436 : Ref sig .tc := ⟨.hbm, 518, rfl⟩
abbrev main_v437 : Ref sig .tc := ⟨.hbm, 519, rfl⟩
abbrev main_v438 : Ref sig .tc := ⟨.hbm, 520, rfl⟩
abbrev main_v439 : Ref sig .tc := ⟨.hbm, 521, rfl⟩
abbrev main_v440 : Ref sig .tc := ⟨.hbm, 522, rfl⟩
abbrev main_cst_44 : Ref sig .tc := ⟨.hbm, 523, rfl⟩
abbrev main_v441 : Ref sig .tc := ⟨.hbm, 524, rfl⟩
abbrev main_v442 : Ref sig .tc := ⟨.hbm, 525, rfl⟩
abbrev main_v443 : Ref sig .tc := ⟨.hbm, 526, rfl⟩
abbrev main_v444 : Ref sig .tc := ⟨.hbm, 527, rfl⟩
abbrev main_call7_cst : Ref sig .tc := ⟨.hbm, 528, rfl⟩
abbrev main_call7_v0 : Ref sig .tc := ⟨.hbm, 529, rfl⟩
abbrev main_v445 : Ref sig .tc := ⟨.hbm, 530, rfl⟩
abbrev main_v446 : Ref sig .tc := ⟨.hbm, 531, rfl⟩
abbrev main_call8_cst : Ref sig .tc := ⟨.hbm, 532, rfl⟩
abbrev main_call8_v0 : Ref sig .tc := ⟨.hbm, 533, rfl⟩
abbrev main_v447 : Ref sig .tc := ⟨.hbm, 534, rfl⟩
abbrev main_v448 : Ref sig .tc := ⟨.hbm, 535, rfl⟩
abbrev main_c_45 : Ref sig .tc := ⟨.hbm, 536, rfl⟩
abbrev main_v449 : Ref sig .tc := ⟨.hbm, 537, rfl⟩
abbrev main_v450 : Ref sig .tc := ⟨.hbm, 538, rfl⟩
abbrev main_c_46 : Ref sig .tc := ⟨.hbm, 539, rfl⟩
abbrev main_v451 : Ref sig .tc := ⟨.hbm, 540, rfl⟩
abbrev main_v452 : Ref sig .tc := ⟨.hbm, 541, rfl⟩
abbrev main_v453 : Ref sig .tc := ⟨.hbm, 542, rfl⟩
abbrev main_v454 : Ref sig .tc := ⟨.hbm, 543, rfl⟩
abbrev main_v455 : Ref sig .tc := ⟨.hbm, 544, rfl⟩
abbrev main_c_47 : Ref sig .tc := ⟨.hbm, 545, rfl⟩
abbrev main_v456 : Ref sig .tc := ⟨.hbm, 546, rfl⟩
abbrev main_v457 : Ref sig .tc := ⟨.hbm, 547, rfl⟩
abbrev main_c_48 : Ref sig .tc := ⟨.hbm, 548, rfl⟩
abbrev main_v458 : Ref sig .tc := ⟨.hbm, 549, rfl⟩
abbrev main_v459 : Ref sig .tc := ⟨.hbm, 550, rfl⟩
abbrev main_v460 : Ref sig .tc := ⟨.hbm, 551, rfl⟩
abbrev main_v461 : Ref sig .tc := ⟨.hbm, 552, rfl⟩
abbrev main_v462 : Ref sig .tc := ⟨.hbm, 553, rfl⟩
abbrev main_v463 : Ref sig .tc := ⟨.hbm, 554, rfl⟩
abbrev main_v464 : Ref sig .tc := ⟨.hbm, 555, rfl⟩
abbrev main_v465 : Ref sig .tc := ⟨.hbm, 556, rfl⟩
abbrev main_v466 : Ref sig .tc := ⟨.hbm, 557, rfl⟩
abbrev main_v467 : Ref sig .tc := ⟨.hbm, 558, rfl⟩
abbrev main_call9_cst : Ref sig .tc := ⟨.hbm, 559, rfl⟩
abbrev main_call9_v0 : Ref sig .tc := ⟨.hbm, 560, rfl⟩
abbrev main_v468 : Ref sig .tc := ⟨.hbm, 561, rfl⟩
abbrev main_v469 : Ref sig .tc := ⟨.hbm, 562, rfl⟩
abbrev main_v470 : Ref sig .tc := ⟨.hbm, 563, rfl⟩
abbrev main_v471 : Ref sig .tc := ⟨.hbm, 564, rfl⟩
abbrev main_v472 : Ref sig .tc := ⟨.hbm, 565, rfl⟩

abbrev nD : Nat := 1
abbrev τ : Topo := Topo.v7x

variable {F : FTy → Type} [FloatOps F]
-- ==== Proof.Embedding.lean ====
/- The embedding of one read in one feature, over the extended reals, and the two sums that both programs'
   forms of it are brought to. -/
module

public import Idealize.ShloMosaic.PureOps.Ideal

@[expose] public section

noncomputable section

namespace Cert.Embedding

/-- The embedding of a read `r` (four bases, 128 positions) by a feature's filter `w` and bias `b`: the filter slid over
    the 113 positions at which it fits, the positive part taken at each, and the mean of them. -/
def embed (r : Fin 4 → Fin 128 → EReal) (w : Fin 4 → Fin 16 → EReal) (b : EReal) : EReal :=
  (∑ t : Fin 113, max ((∑ c : Fin 4, ∑ k : Fin 16, w c k * r c ⟨t.val + k.val, by omega⟩) + b) 0)
    * ((113⁻¹ : ℝ) : EReal)

/-- A sum over 64 is a sum over 4 times 16, the 16 running fastest. -/
theorem sum_64 (f : Fin 64 → EReal) :
    ∑ j : Fin 64, f j = ∑ c : Fin 4, ∑ k : Fin 16, f ⟨16 * c.val + k.val, by omega⟩ := by
  rw [← Fintype.sum_prod_type' (f := fun (c : Fin 4) (k : Fin 16) => f ⟨16 * c.val + k.val, by omega⟩)]
  refine (Fintype.sum_equiv (finProdFinEquiv (m := 4) (n := 16)) _ _ fun p => ?_).symm
  refine congrArg f (Fin.ext ?_)
  simp [finProdFinEquiv, Nat.add_comm]

/-- A sum over 16, its terms added in turn to zero. -/
theorem sum_16 (f : Fin 16 → EReal) :
    ∑ k : Fin 16, f k = 0 + f 0 + f 1 + f 2 + f 3 + f 4 + f 5 + f 6 + f 7 + f 8 + f 9 + f 10 + f 11 + f 12 + f 13 + f 14
      + f 15 := by
  simp only [Fin.sum_univ_castSucc, Finset.univ_eq_empty, Finset.sum_empty]
  rfl

/-- A sum over 128 whose last 15 terms vanish is the sum of its first 113. -/
theorem sum_113 (f : Fin 128 → EReal) (h : ∀ t : Fin 128, 113 ≤ t.val → f t = 0) :
    ∑ t : Fin 128, f t = ∑ t : Fin 113, f ⟨t.val, by omega⟩ := by
  have e := Fin.sum_univ_add (a := 113) (b := 15) f
  rw [show ∑ t : Fin 128, f t = ∑ t : Fin (113 + 15), f t from rfl, e]
  rw [Finset.sum_eq_zero (s := Finset.univ) (f := fun i : Fin 15 => f (Fin.natAdd 113 i))
    (fun i _ => h _ (by simp)), add_zero]
  rfl

end Cert.Embedding

end
-- ==== Proof.EmbedBlock.lean ====
/- What one block of the launch computes: the embedding of 128 reads in 64 features. -/
module

public import proofs.«01_k».proof.Proof.Gen.KernelIdeal.Frame
public import proofs.«01_k».proof.Proof.Embedding
public import Idealize.ShloMosaic.Lib.Pointwise
public import Idealize.ShloMosaic.Lib.Pipeline.ValueKit

@[expose] public section

set_option maxRecDepth 16384

noncomputable section

namespace Cert.EmbedBlock

open Idealize.ShloMosaic Cert.KernelIdeal Cert.KernelIdeal.Gen Cert.Embedding

/-- Base `c` of the 128 reads, cut out of their block. -/
theorem slab_apply (X : FVec Ideal S128x4x128 .f32) (c : Nat) (hc : c < 4) (h₀ : S128x4x128.ShapeCasts S128x4x128)
    (h₁ : S128x4x128.Slices ![0, c, 0] S128x1x128) (h₂ : S128x1x128.ShapeCasts S128x128) (n t : Fin 128) :
    shapeCast S128x128 (extractStridedSlice S128x1x128 ![0, c, 0] (shapeCast S128x4x128 X h₀) h₁) h₂ (ix2 n t)
      = X (ix3 n ⟨c, hc⟩ t) := by
  pointwise

/-- A slab as one member of the stack. -/
theorem member_apply (Y : FVec Ideal S128x128 .f32) (h : S128x128.ShapeCasts S1x128x128) (i : S1x128x128.Idx)
    (n t : Fin 128) (hn : (i 1).val = n.val) (ht : (i 2).val = t.val) :
    shapeCast S1x128x128 Y h i = Y (ix2 n t) := by
  idx_vars i
  obtain rfl : i1 = n := Fin.ext hn
  obtain rfl : i2 = t := Fin.ext ht
  pointwise

/-- A slab turned by `k` places, at a place that the turn does not wrap around. -/
theorem turned_apply (Y : FVec Ideal S128x128 .f32) (p q k : Nat)
    (h₁ : S128x128.Slices ![0, k] ⟨2, ![128, p]⟩) (h₂ : S128x128.Slices ![0, 0] ⟨2, ![128, q]⟩)
    (h₃ : Shape.Concatenates [⟨2, ![128, p]⟩, ⟨2, ![128, q]⟩] S128x128 1)
    (n t : Fin 128) (hp : t.val < p) (hk : t.val + k < 128) :
    concatenate S128x128 1 [⟨⟨2, ![128, p]⟩, extractStridedSlice ⟨2, ![128, p]⟩ ![0, k] Y h₁⟩,
        ⟨⟨2, ![128, q]⟩, extractStridedSlice ⟨2, ![128, q]⟩ ![0, 0] Y h₂⟩] h₃ (ix2 n t)
      = Y (ix2 n ⟨t.val + k, hk⟩) := by
  rw [concatenate_pair_apply_left 1 _ _ h₃ (ix2 n t) rfl (ix2 n ⟨t.val, hp⟩) (by intro b; fin_cases b <;> rfl)]
  refine congrArg Y (funext fun a => Fin.ext ?_)
  fin_cases a
  · exact Nat.zero_add _
  · exact Nat.add_comm _ _

/-- The member of the stack for base `c` and tap `k`, where the tap is past the first. -/
theorem tap_apply (X : FVec Ideal S128x4x128 .f32) (c : Nat) (h₀ : S128x4x128.ShapeCasts S128x4x128)
    (h₁ : S128x4x128.Slices ![0, c, 0] S128x1x128) (h₂ : S128x1x128.ShapeCasts S128x128) (p q k : Nat)
    (h₃ : S128x128.Slices ![0, k] ⟨2, ![128, p]⟩) (h₄ : S128x128.Slices ![0, 0] ⟨2, ![128, q]⟩)
    (h₅ : Shape.Concatenates [⟨2, ![128, p]⟩, ⟨2, ![128, q]⟩] S128x128 1) (h₆ : S128x128.ShapeCasts S1x128x128)
    (i : S1x128x128.Idx) (c' : Fin 4) (k' : Fin 16) (n t : Fin 128) (ht : t.val < 113) (hn : (i 1).val = n.val)
    (hi : (i 2).val = t.val) (h : 16 * c'.val + k'.val = 16 * c + k) (hk : k < 16) (hp : 113 ≤ p) :
    shapeCast S1x128x128 (concatenate S128x128 1
        [⟨⟨2, ![128, p]⟩, extractStridedSlice ⟨2, ![128, p]⟩ ![0, k] (shapeCast S128x128
            (extractStridedSlice S128x1x128 ![0, c, 0] (shapeCast S128x4x128 X h₀) h₁) h₂) h₃⟩,
          ⟨⟨2, ![128, q]⟩, extractStridedSlice ⟨2, ![128, q]⟩ ![0, 0] (shapeCast S128x128
            (extractStridedSlice S128x1x128 ![0, c, 0] (shapeCast S128x4x128 X h₀) h₁) h₂) h₄⟩] h₅) h₆ i
      = X (ix3 n c' ⟨t.val + k'.val, by omega⟩) := by
  obtain rfl : c'.val = c := by omega
  obtain rfl : k'.val = k := by omega
  rw [member_apply _ _ i n t hn hi, turned_apply _ p q k' h₃ h₄ h₅ n t (by omega) (by omega),
    slab_apply X c' c'.isLt]

/-- The member of the stack for base `c` and the first tap. -/
theorem tap0_apply (X : FVec Ideal S128x4x128 .f32) (c : Nat) (h₀ : S128x4x128.ShapeCasts S128x4x128)
    (h₁ : S128x4x128.Slices ![0, c, 0] S128x1x128) (h₂ : S128x1x128.ShapeCasts S128x128)
    (h₆ : S128x128.ShapeCasts S1x128x128)
    (i : S1x128x128.Idx) (c' : Fin 4) (k' : Fin 16) (n t : Fin 128) (ht : t.val < 113) (hn : (i 1).val = n.val)
    (hi : (i 2).val = t.val) (h : 16 * c'.val + k'.val = 16 * c) :
    shapeCast S1x128x128 (shapeCast S128x128
        (extractStridedSlice S128x1x128 ![0, c, 0] (shapeCast S128x4x128 X h₀) h₁) h₂) h₆ i
      = X (ix3 n c' ⟨t.val + k'.val, by omega⟩) := by
  obtain rfl : c'.val = c := by omega
  have hk : k'.val = 0 := by omega
  rw [member_apply _ _ i n t hn hi, slab_apply X c' c'.isLt]
  refine congrArg (fun u => X (ix3 n c' u)) (Fin.ext ?_)
  simp [hk]

/-- The mask keeps the first 113 positions. -/
theorem mask_kept (t : Fin 128) (ht : t.val < 113) :
    (FloatOps.sitofp .f32 (BitVec.setWidth 32 (IntOp.cmpi .slt (BitVec.ofNat 32 t.val) 113#32)) : Ideal .f32) = 1 := by
  have e : BitVec.setWidth 32 (IntOp.cmpi .slt (BitVec.ofNat 32 t.val) 113#32) = 1#32 := by
    revert t; decide
  rw [e]
  show (((1#32 : BitVec 32).toInt : ℝ) : EReal) = 1
  norm_num

/-- The mask drops the others. -/
theorem mask_dropped (t : Fin 128) (ht : 113 ≤ t.val) :
    (FloatOps.sitofp .f32 (BitVec.setWidth 32 (IntOp.cmpi .slt (BitVec.ofNat 32 t.val) 113#32)) : Ideal .f32) = 0 := by
  have e : BitVec.setWidth 32 (IntOp.cmpi .slt (BitVec.ofNat 32 t.val) 113#32) = 0#32 := by
    revert t; decide
  rw [e]
  show (((0#32 : BitVec 32).toInt : ℝ) : EReal) = 0
  norm_num

/-- The named constant is the reciprocal of the number of positions. -/
theorem mean_eq : (Named.named κ "mean" 0x3C10FDBC#32 : Ideal .f32) = ((113⁻¹ : ℝ) : EReal) :=
  IdealRules.named_const.ideal_named_scalar _ _ _ _ rfl

/-- The block's arithmetic, over a stack that holds each base shifted by each tap. -/
theorem arithmetic (X : FVec Ideal S128x4x128 .f32) (W : FVec Ideal S64x64 .f32) (P : FVec Ideal S64x128x128 .f32)
    (b : FVec Ideal S64 .f32)
    (hP : ∀ (c : Fin 4) (k : Fin 16) (n t : Fin 128) (ht : t.val < 113),
      P (ix3 ⟨16 * c.val + k.val, by omega⟩ n t) = X (ix3 n c ⟨t.val + k.val, by omega⟩))
    (n : Fin 128) (d : Fin 64) :
    k0_pay2 (k0_pay4 W) P b (ix2 n d)
      = embed (fun c u => X (ix3 n c u)) (fun c k => W (ix2 d ⟨16 * c.val + k.val, by omega⟩)) (b (ix1 d)) := by
  pointwise [k0_pay2, k0_pay4]
  rw [mean_eq, sum_113 _ fun t ht => by rw [mask_dropped t ht, mul_zero]]
  unfold embed
  refine congrArg (· * ((113⁻¹ : ℝ) : EReal)) (Finset.sum_congr rfl fun t _ => ?_)
  rw [mask_kept ⟨t.val, by omega⟩ t.isLt, mul_one, sum_64]
  refine congrArg (fun z => max (z + b (ix1 d)) 0)
    (Finset.sum_congr rfl fun c _ => Finset.sum_congr rfl fun k _ => ?_)
  rw [hP c k n ⟨t.val, by omega⟩ t.isLt]

/-- The block. -/
theorem block (X : FVec Ideal S128x4x128 .f32) (W : FVec Ideal S64x64 .f32) (b : FVec Ideal S64 .f32)
    (n : Fin 128) (d : Fin 64) :
    out0_3 (F := Ideal) X W b (ix2 n d)
      = embed (fun c u => X (ix3 n c u)) (fun c k => W (ix2 d ⟨16 * c.val + k.val, by omega⟩)) (b (ix1 d)) := by
  unfold_out out0_3
  frame_out
  refine arithmetic X W _ b (fun c k n t ht => ?_) n d
  unfold k0_pay1
  concat_tiles i h
  all_goals unfold_payloads
  all_goals first
    | (refine tap0_apply X _ _ _ _ _ i c k n t ht h1 h2 ?_; exact h)
    | (refine tap_apply X _ _ _ _ _ _ _ _ _ _ _ i c k n t ht h1 h2 ?_ ?_ ?_ <;> first | exact h | decide)

end Cert.EmbedBlock

end
-- ==== Proof.Network.lean ====
/- The part of the model behind the sequence embedding, as one function: the edge encoder, four gated
   graph layers and the edge decoder, of the weights and of the embedded nodes. Both programs end in this
   function, in the same operations in the same order, so it is stated at any float interpretation and
   nothing in it is ever evaluated. -/
module

public import proofs.«01_k».proof.Proof.Gen.ReferenceIdeal

@[expose] public section

noncomputable section

namespace Cert.Network

open Idealize.ShloMosaic Cert.ReferenceIdeal Cert.ReferenceIdeal.Gen

variable {F : FTy → Type} [FloatOps F]

/-- One row of 64 features per node. -/
abbrev Nodes (F : FTy → Type) := FVec F S10000x64 .f32

/-- One row of 64 features per edge. -/
abbrev Edges (F : FTy → Type) := FVec F S160000x64 .f32

/-- What the network reads besides the embedded nodes: the end points and the similarities of the edges, and the weights. -/
structure Weights (F : FTy → Type) where
  /-- The source of each edge. -/
  src : IVec S160000 32
  /-- The target of each edge. -/
  dst : IVec S160000 32
  /-- The similarity of each edge. -/
  sim : FVec F S160000 .f32
  /-- The edge encoder's matrix. -/
  encW : FVec F S1x64 .f32
  /-- The edge encoder's bias. -/
  encB : FVec F S64 .f32
  /-- The matrices of the source term of the gate, one per layer. -/
  srcW : FVec F S4x64x64 .f32
  /-- The biases of the source term of the gate. -/
  srcB : FVec F S4x64 .f32
  /-- The matrices of the target term of the gate. -/
  dstW : FVec F S4x64x64 .f32
  /-- The biases of the target term of the gate. -/
  dstB : FVec F S4x64 .f32
  /-- The matrices of the edge term of the gate. -/
  edgeW : FVec F S4x64x64 .f32
  /-- The biases of the edge term of the gate. -/
  edgeB : FVec F S4x64 .f32
  /-- The matrices of a node's own term. -/
  selfW : FVec F S4x64x64 .f32
  /-- The biases of a node's own term. -/
  selfB : FVec F S4x64 .f32
  /-- The matrices of the messages. -/
  msgW : FVec F S4x64x64 .f32
  /-- The biases of the messages. -/
  msgB : FVec F S4x64 .f32
  /-- The decoder's hidden matrix. -/
  hidW : FVec F S192x64 .f32
  /-- The decoder's hidden bias. -/
  hidB : FVec F S64 .f32
  /-- The decoder's output matrix. -/
  outW : FVec F S64x1 .f32
  /-- The decoder's output bias. -/
  outB : FVec F S1 .f32

/-- The sources of the edges: row 0 of the edge list. -/
def sources (ends : IVec S2x160000 32) : IVec S160000 32 :=
  shapeCast S160000 (extractStridedSlice S1x160000 ![0, 0] ends slices_S2x160000_S1x160000_0_0)
    shapeCasts_S1x160000_S160000

/-- The targets of the edges: row 1 of the edge list. -/
def targets (ends : IVec S2x160000 32) : IVec S160000 32 :=
  shapeCast S160000 (extractStridedSlice S1x160000 ![1, 0] ends slices_S2x160000_S1x160000_1_0)
    shapeCasts_S1x160000_S160000

/-- Layer `l`'s matrix lies inside the stack of four. -/
theorem slices_matrix (l : Fin 4) : S4x64x64.Slices ![l.val, 0, 0] S1x64x64 := by
  revert l; decide

/-- Layer `l`'s bias lies inside the stack of four. -/
theorem slices_bias (l : Fin 4) : S4x64.Slices ![l.val, 0] S1x64 := by
  revert l; decide

/-- Layer `l`'s matrix. -/
def matrixOf (l : Fin 4) (W : FVec F S4x64x64 .f32) : FVec F S64x64 .f32 :=
  shapeCast S64x64 (extractStridedSlice S1x64x64 ![l.val, 0, 0] W (slices_matrix l)) shapeCasts_S1x64x64_S64x64

/-- Layer `l`'s bias. -/
def biasOf (l : Fin 4) (b : FVec F S4x64 .f32) : FVec F S64 .f32 :=
  shapeCast S64 (extractStridedSlice S1x64 ![l.val, 0] b (slices_bias l)) shapeCasts_S1x64_S64

/-- A bias, repeated for every node. -/
def nodeBias (b : FVec F S64 .f32) : Nodes F :=
  broadcastInDim S10000x64 ![0, 1] bcast_S1x64_S10000x64_0_1 (broadcastInDim S1x64 ![1] bcast_S64_S1x64_1 b)

/-- A bias, repeated for every edge. -/
def edgeBias (b : FVec F S64 .f32) : Edges F :=
  broadcastInDim S160000x64 ![0, 1] bcast_S1x64_S160000x64_0_1 (broadcastInDim S1x64 ![1] bcast_S64_S1x64_1 b)

/-- An affine map of the nodes. -/
def nodeLinear (h : Nodes F) (W : FVec F S64x64 .f32) (b : FVec F S64 .f32) : Nodes F :=
  addf (Host.dotGeneral dot_S10000x64_S64x64_S10000x64_1_0_0_1_n_n none h W) (nodeBias b)

/-- A linear map of the edges. -/
def edgeLinear (e : Edges F) (W : FVec F S64x64 .f32) : Edges F :=
  Host.dotGeneral dot_S160000x64_S64x64_S160000x64_1_0_0_1_n_n none e W

/-- The rows of `x` at the nodes `i`, a negative number counted from the end. -/
def rowsAt (x : Nodes F) (i : IVec S160000 32) : Edges F :=
  Host.gather gather_S10000x64_S160000x1_S160000x64_1_0_n_n_0_1_164 x
    (broadcastInDim S160000x1 ![0] bcast_S160000_S160000x1_0
      (select (cmpi .slt i (broadcastInDim S160000 ![] bcast_S_S160000 (constantI S_ 32 0#32)))
        (addi i (broadcastInDim S160000 ![] bcast_S_S160000 (constantI S_ 32 10000#32))) i))

/-- The sum over the edges that end in each node. -/
def sumAt (x : Edges F) (i : IVec S160000 32) : Nodes F :=
  Host.scatterAdd scatter_S10000x64_S160000x1_S160000x64_1_0_0_1
    (broadcastInDim S10000x64 ![] bcast_S_S10000x64 (constant S_ .f32 0x00000000#32))
    (broadcastInDim S160000x1 ![0] bcast_S160000_S160000x1_0 i) x

/-- The positive part, edge by edge. -/
def edgeRelu (x : Edges F) : Edges F :=
  maximumf x (broadcastInDim S160000x64 ![] bcast_S_S160000x64 (constant S_ .f32 0x00000000#32))

/-- The positive part, node by node. -/
def nodeRelu (x : Nodes F) : Nodes F :=
  maximumf x (broadcastInDim S10000x64 ![] bcast_S_S10000x64 (constant S_ .f32 0x00000000#32))

/-- The edge encoder. -/
def encode (w : Weights F) : Edges F :=
  addf (Host.dotGeneral dot_S160000x1_S1x64_S160000x64_1_0_0_1_n_n none
    (broadcastInDim S160000x1 ![0] bcast_S160000_S160000x1_0 w.sim) w.encW) (edgeBias w.encB)

/-- The gate of layer `l` before its logistic function. -/
def preGate (w : Weights F) (l : Fin 4) (h : Nodes F) (e : Edges F) : Edges F :=
  addf (addf (addf
    (rowsAt (nodeLinear h (matrixOf l w.srcW) (biasOf l w.srcB)) w.src)
    (rowsAt (nodeLinear h (matrixOf l w.dstW) (biasOf l w.dstB)) w.dst))
    (edgeLinear e (matrixOf l w.edgeW))) (edgeBias (biasOf l w.edgeB))

/-- The logistic function, edge by edge. -/
def gate (x : Edges F) : Edges F :=
  Host.divf (broadcastInDim S160000x64 ![] bcast_S_S160000x64 (constant S_ .f32 0x3F800000#32))
    (addf (broadcastInDim S160000x64 ![] bcast_S_S160000x64 (constant S_ .f32 0x3F800000#32))
      (Host.exp (Host.negf x)))

/-- The update of the nodes in layer `l` before its positive part is taken: the node's own term and the mean of the
    incoming messages, weighted by the gates `g`. -/
def preUpdate (w : Weights F) (l : Fin 4) (h : Nodes F) (g : Edges F) : Nodes F :=
  addf (nodeLinear h (matrixOf l w.selfW) (biasOf l w.selfB))
    (Host.divf
      (sumAt (mulf g (rowsAt (nodeLinear h (matrixOf l w.msgW) (biasOf l w.msgB)) w.src)) w.dst)
      (addf (sumAt g w.dst)
        (broadcastInDim S10000x64 ![] bcast_S_S10000x64 (constant S_ .f32 0x358637BD#32))))

/-- The nodes after layer `l`. -/
def nextNodes (w : Weights F) (l : Fin 4) (h : Nodes F) (e : Edges F) : Nodes F :=
  addf h (nodeRelu (preUpdate w l h (gate (preGate w l h e))))

/-- The edges after layer `l`. -/
def nextEdges (w : Weights F) (l : Fin 4) (h : Nodes F) (e : Edges F) : Edges F :=
  addf e (edgeRelu (preGate w l h e))

/-- The three rows that an edge is decoded from, side by side. -/
def joined (a b c : Edges F) : FVec F S160000x192 .f32 :=
  concatenate S160000x192 1 [⟨S160000x64, a⟩, ⟨S160000x64, b⟩, ⟨S160000x64, c⟩]
    concatenates_S160000x64_S160000x64_S160000x64_S160000x192_d1

/-- The decoder's hidden layer before its positive part is taken. -/
def preHidden (w : Weights F) (h : Nodes F) (e : Edges F) : Edges F :=
  addf (Host.dotGeneral dot_S160000x192_S192x64_S160000x64_1_0_0_1_n_n none
    (joined (rowsAt h w.src) (rowsAt h w.dst) e) w.hidW) (edgeBias w.hidB)

/-- The decoder's output, of its hidden layer. -/
def output (w : Weights F) (x : Edges F) : FVec F S160000x1 .f32 :=
  addf (Host.dotGeneral dot_S160000x64_S64x1_S160000x1_1_0_0_1_n_n none x w.outW)
    (broadcastInDim S160000x1 ![0, 1] bcast_S1x1_S160000x1_0_1 (broadcastInDim S1x1 ![1] bcast_S1_S1x1_1 w.outB))

/-- The nodes and the edges before layer `n`. -/
def state (w : Weights F) (h₀ : Nodes F) : Nat → Nodes F × Edges F
  | 0 => (h₀, encode w)
  | n + 1 =>
    (nextNodes w (Fin.ofNat 4 n) (state w h₀ n).1 (state w h₀ n).2,
      nextEdges w (Fin.ofNat 4 n) (state w h₀ n).1 (state w h₀ n).2)

/-- The whole network of the embedded nodes. -/
def network (w : Weights F) (h₀ : Nodes F) : FVec F S160000x1 .f32 :=
  output w (edgeRelu (preHidden w (state w h₀ 4).1 (state w h₀ 4).2))

end Cert.Network

end
-- ==== Proof.KerNetwork.lean ====
/- What the kernel's program computes behind its launch: the network of the rows that the launch left. -/
module

public import proofs.«01_k».proof.Proof.Network
public import proofs.«01_k».proof.Proof.Gen.KernelIdeal.Launch
public import Idealize.ShloMosaic.Lib.StableHlo.RunRead
public import Idealize.ShloMosaic.Lib.Pipeline.Frame

@[expose] public section

set_option maxRecDepth 16384

noncomputable section

namespace Cert.KerNetwork

open Idealize.ShloMosaic Idealize.ShloMosaic.StableHlo Cert.KernelIdeal Cert.KernelIdeal.Gen Cert.Network

variable {F : FTy → Type} [FloatOps F] [Named F]

/-- The weights, out of the program's arguments, and the end points of the edges, which are cut out of the edge list
    before the launch. -/
def weights (V : Valuation τ sig (Elt F)) : Weights F where
  src := V (Proc.devRef .tc main_v1)
  dst := V (Proc.devRef .tc main_v3)
  sim := V (Proc.devRef .tc main_arg2)
  encW := V (Proc.devRef .tc main_arg6)
  encB := V (Proc.devRef .tc main_arg7)
  srcW := V (Proc.devRef .tc main_arg8)
  srcB := V (Proc.devRef .tc main_arg9)
  dstW := V (Proc.devRef .tc main_arg10)
  dstB := V (Proc.devRef .tc main_arg11)
  edgeW := V (Proc.devRef .tc main_arg12)
  edgeB := V (Proc.devRef .tc main_arg13)
  selfW := V (Proc.devRef .tc main_arg14)
  selfB := V (Proc.devRef .tc main_arg15)
  msgW := V (Proc.devRef .tc main_arg16)
  msgB := V (Proc.devRef .tc main_arg17)
  hidW := V (Proc.devRef .tc main_arg18)
  hidB := V (Proc.devRef .tc main_arg19)
  outW := V (Proc.devRef .tc main_arg20)
  outB := V (Proc.devRef .tc main_arg21)

/-- The embedded nodes: the first 10000 rows that the launch left. -/
def embedded (V : Valuation τ sig (Elt F)) : Nodes F :=
  extractStridedSlice S10000x64 ![0, 0] (V (Proc.devRef .tc main_v6)) slices_S10240x64_S10000x64_0_0

/-- The operations of layer 0: they encode the edges and update nodes and edges once. The
    addition that completes the edges is the next stretch's first. -/
abbrev layer0 : List (HloOp τ sig (Elt F)) := hostOps1 ++ (hostOps1_1 ++ (hostOps1_2 ++ hostOps1_3))

/-- The operations of layer 1. -/
abbrev layer1 : List (HloOp τ sig (Elt F)) := hostOps1_4 ++ (hostOps1_5 ++ (hostOps1_6 ++ hostOps1_7))

/-- The operations of layer 2. -/
abbrev layer2 : List (HloOp τ sig (Elt F)) := hostOps1_8 ++ (hostOps1_9 ++ (hostOps1_10 ++ hostOps1_11))

/-- The operations of layer 3. -/
abbrev layer3 : List (HloOp τ sig (Elt F)) := hostOps1_12 ++ (hostOps1_13 ++ (hostOps1_14 ++ hostOps1_15))

/-- The operations of the decoder. -/
abbrev decoder : List (HloOp τ sig (Elt F)) := hostOps1_16 ++ (hostOps1_17 ++ hostOps1_18)

/-- No layer writes what the network reads. -/
theorem weights_kept (V : Valuation τ sig (Elt F)) :
    weights (after layer0 V) = weights V ∧ weights (after layer1 V) = weights V
      ∧ weights (after layer2 V) = weights V ∧ weights (after layer3 V) = weights V := by
  refine ⟨?_, ?_, ?_, ?_⟩ <;> · unfold weights; after_reads_simp

/-- Layer 0: the nodes it ends with, and the two terms of the edges it ends with. -/
theorem layer0_reads (V : Valuation τ sig (Elt F)) :
    after layer0 V (Proc.devRef .tc main_v94) = nextNodes (weights V) 0 (embedded V) (encode (weights V))
      ∧ after layer0 V (Proc.devRef .tc main_v12) = encode (weights V)
      ∧ after layer0 V (Proc.devRef .tc main_v95)
        = edgeRelu (preGate (weights V) 0 (embedded V) (encode (weights V))) := by
  refine ⟨?_, ?_, ?_⟩ <;> · after_reads_simp; rfl

/-- Layer 1. -/
theorem layer1_reads (V : Valuation τ sig (Elt F)) (h : Nodes F) (e : Edges F)
    (hh : V (Proc.devRef .tc main_v94) = h)
    (he : addf (V (Proc.devRef .tc main_v12)) (V (Proc.devRef .tc main_v95)) = e) :
    after layer1 V (Proc.devRef .tc main_v178) = nextNodes (weights V) 1 h e
      ∧ after layer1 V (Proc.devRef .tc main_v96) = e
      ∧ after layer1 V (Proc.devRef .tc main_v179) = edgeRelu (preGate (weights V) 1 h e) := by
  subst hh he
  refine ⟨?_, ?_, ?_⟩ <;> after_reads_simp <;> rfl

/-- Layer 2. -/
theorem layer2_reads (V : Valuation τ sig (Elt F)) (h : Nodes F) (e : Edges F)
    (hh : V (Proc.devRef .tc main_v178) = h)
    (he : addf (V (Proc.devRef .tc main_v96)) (V (Proc.devRef .tc main_v179)) = e) :
    after layer2 V (Proc.devRef .tc main_v262) = nextNodes (weights V) 2 h e
      ∧ after layer2 V (Proc.devRef .tc main_v180) = e
      ∧ after layer2 V (Proc.devRef .tc main_v263) = edgeRelu (preGate (weights V) 2 h e) := by
  subst hh he
  refine ⟨?_, ?_, ?_⟩ <;> after_reads_simp <;> rfl

/-- Layer 3. -/
theorem layer3_reads (V : Valuation τ sig (Elt F)) (h : Nodes F) (e : Edges F)
    (hh : V (Proc.devRef .tc main_v262) = h)
    (he : addf (V (Proc.devRef .tc main_v180)) (V (Proc.devRef .tc main_v263)) = e) :
    after layer3 V (Proc.devRef .tc main_v346) = nextNodes (weights V) 3 h e
      ∧ after layer3 V (Proc.devRef .tc main_v264) = e
      ∧ after layer3 V (Proc.devRef .tc main_v347) = edgeRelu (preGate (weights V) 3 h e) := by
  subst hh he
  refine ⟨?_, ?_, ?_⟩ <;> after_reads_simp <;> rfl

/-- The decoder. -/
theorem decoder_reads (V : Valuation τ sig (Elt F)) (h : Nodes F) (e : Edges F)
    (hh : V (Proc.devRef .tc main_v346) = h)
    (he : addf (V (Proc.devRef .tc main_v264)) (V (Proc.devRef .tc main_v347)) = e) :
    after decoder V (Proc.devRef .tc main_v372) = output (weights V) (edgeRelu (preHidden (weights V) h e)) := by
  subst hh he
  after_reads_simp; rfl

/-- All operations behind the launch, in order. -/
abbrev tail : List (List (HloOp τ sig (Elt F))) :=
  [hostOps1, hostOps1_1, hostOps1_2, hostOps1_3, hostOps1_4, hostOps1_5, hostOps1_6, hostOps1_7, hostOps1_8, hostOps1_9,
    hostOps1_10, hostOps1_11, hostOps1_12, hostOps1_13, hostOps1_14, hostOps1_15, hostOps1_16, hostOps1_17, hostOps1_18]

/-- They are the four layers and the decoder. -/
theorem tail_eq : (tail : List (List (HloOp τ sig (Elt F)))).flatten
    = layer0 ++ (layer1 ++ (layer2 ++ (layer3 ++ decoder))) := by
  simp only [List.flatten_cons, List.flatten_nil, List.append_nil, List.append_assoc]

/-- What the program's result holds after them: the network of the rows that the launch left. -/
theorem tail_result (V : Valuation τ sig (Elt F)) :
    after tail.flatten V (Proc.devRef .tc main_v372) = network (weights V) (embedded V) := by
  rw [tail_eq, after_append, after_append, after_append, after_append]
  obtain ⟨a0, b0, c0⟩ := layer0_reads V
  have w0 := (weights_kept V).1
  generalize after layer0 V = V0 at *
  obtain ⟨a1, b1, c1⟩ := layer1_reads V0 _ _ a0 (by rw [b0, c0])
  have w1 := (weights_kept V0).2.1
  generalize after layer1 V0 = V1 at *
  obtain ⟨a2, b2, c2⟩ := layer2_reads V1 _ _ a1 (by rw [b1, c1])
  have w2 := (weights_kept V1).2.2.1
  generalize after layer2 V1 = V2 at *
  obtain ⟨a3, b3, c3⟩ := layer3_reads V2 _ _ a2 (by rw [b2, c2])
  have w3 := (weights_kept V2).2.2.2
  generalize after layer3 V2 = V3 at *
  rw [decoder_reads V3 _ _ a3 (by rw [b3, c3]), w3, w2, w1, w0]
  rfl

end Cert.KerNetwork

end
-- ==== Proof.EmbedArray.lean ====
/- What the launch leaves in its output: the embedding of every read in every feature. -/
module

public import proofs.«01_k».proof.Proof.EmbedBlock
public import proofs.«01_k».proof.Proof.KerNetwork

@[expose] public section

set_option maxRecDepth 16384

noncomputable section

namespace Cert.EmbedArray

open Idealize.ShloMosaic Idealize.ShloMosaic.TcCoe Idealize.ShloMosaic.StableHlo Idealize.SL.Sem
open Cert.KernelIdeal Cert.KernelIdeal.Gen Cert.Embedding

/-- The embedding of a batch of reads by the filters as the launch takes them, one row per feature. -/
def rows (X : FVec Ideal S10240x4x128 .f32) (W : FVec Ideal S64x64 .f32) (b : FVec Ideal S64 .f32) :
    FVec Ideal S10240x64 .f32 := fun i =>
  embed (fun c u => X (ix3 (i 0) c u)) (fun c k => W (ix2 (i 1) ⟨16 * c.val + k.val, by omega⟩)) (b (ix1 (i 1)))

/-- The blocks of the windows at point `t`: reads and output at row `128 t`, the filters and biases whole. -/
theorem blocks : ∀ t : Fin cfg0.N, win0_0.index t = ![t.val, 0, 0] ∧ win0_1.index t = ![0, 0]
    ∧ win0_2.index t = ![0] ∧ win0_3.index t = ![t.val, 0] := by decide +kernel

/-- The output array after the launch. -/
theorem array (m : (ℓ : Loc nD τ sig) → Buf (Elt Ideal) ℓ) (c : Dev nD) :
    (dats m 0 c).arrAt 3 (cfgs 0).N
      = rows (V0 m c (Proc.devRef .tc main_v4)) (V0 m c (Proc.devRef .tc main_v5)) (V0 m c (Proc.devRef .tc main_arg5)) := by
  refine (dats m 0 c).arrAt_eq_of_covers 3 _ (by decide +kernel) fun t hf y => ?_
  blk_simp
  rw [after0_3]
  idx_vars y
  refine (EmbedBlock.block _ _ _ y0 y1).trans ?_
  have ht : t.val < 80 := t.isLt
  have place : (win0_3.blk t).view.emb (ix2 y0 y1) = ix2 (⟨128 * t.val + y0.val, by omega⟩ : Fin 10240) y1 := by
    blk_ext [(blocks t).2.2.2]
  refine Eq.trans ?_ (congrArg (rows _ _ _) place).symm
  have reads (c' : Fin 4) (u : Fin 128) : iblk m c 0 t (ix3 y0 c' u)
      = V0 m c (Proc.devRef .tc main_v4) (ix3 (⟨128 * t.val + y0.val, by omega⟩ : Fin 10240) c' u) := by
    blk_ext [iblk, V, (blocks t).1]
  have filters (i : S64x64.Idx) : iblk m c 1 t i = V0 m c (Proc.devRef .tc main_v5) i := by
    blk_ext [iblk, V, (blocks t).2.1]
  have biases (i : S64.Idx) : iblk m c 2 t i = V0 m c (Proc.devRef .tc main_arg5) i := by
    blk_ext [iblk, V, (blocks t).2.2.1]
  simp only [reads, filters, biases]
  rfl

/-- A row that the padding leaves as it is. -/
theorem pad_row (x : FVec Ideal S10000x4x128 .f32) (v : FVec Ideal S_ .f32) (n : Fin 10000) (c : Fin 4) (u : Fin 128) :
    pad S10240x4x128 ![0, 0, 0] ![240, 0, 0] ![0, 0, 0] x v pads_S10000x4x128_S10240x4x128_02400_000_000 h_S_
      (ix3 (⟨n.val, by omega⟩ : Fin 10240) c u) = x (ix3 n c u) := by
  pointwise

/-- The reads the launch takes are the reads given, followed by rows of padding. -/
theorem padded (m : (ℓ : Loc nD τ sig) → Buf (Elt Ideal) ℓ) (c : Dev nD) (n : Fin 10000) (c' : Fin 4) (u : Fin 128) :
    V0 m c (Proc.devRef .tc main_v4) (ix3 (⟨n.val, by omega⟩ : Fin 10240) c' u)
      = m (c, Proc.devRef .tc main_arg0) (ix3 n c' u) := by
  after_reads_simp
  exact pad_row _ _ n c' u

/-- The filters the launch takes are the filters given, channels and taps laid in one row. -/
theorem reshaped (m : (ℓ : Loc nD τ sig) → Buf (Elt Ideal) ℓ) (c : Dev nD) (d : Fin 64) (c' : Fin 4) (k : Fin 16) :
    V0 m c (Proc.devRef .tc main_v5) (ix2 d (⟨16 * c'.val + k.val, by omega⟩ : Fin 64))
      = m (c, Proc.devRef .tc main_arg4) (ix3 d c' k) := by
  after_reads_simp
  pointwise

end Cert.EmbedArray

end
-- ==== Proof.KerRun.lean ====
/- What the kernel's program leaves after every run: the network of the embedded reads. -/
module

public import proofs.«01_k».proof.Proof.EmbedArray

@[expose] public section

set_option maxRecDepth 16384

noncomputable section

namespace Cert.KerRun

open Idealize.ShloMosaic Idealize.ShloMosaic.TcCoe Idealize.ShloMosaic.StableHlo Idealize.SL.Sem
open Cert.KernelIdeal Cert.KernelIdeal.Gen Cert.Embedding Cert.Network Cert.KerNetwork

/-- The weights as the program was given them. -/
def given (V : Valuation τ sig (Elt Ideal)) : Weights Ideal :=
  { weights V with
    src := sources (V (Proc.devRef .tc main_arg1))
    dst := targets (V (Proc.devRef .tc main_arg1)) }

/-- The embedded reads, out of the program's arguments. -/
def reads (V : Valuation τ sig (Elt Ideal)) : Nodes Ideal := fun i =>
  embed (fun c u => (V (Proc.devRef .tc main_arg0) : FVec Ideal S10000x4x128 .f32) (ix3 (i 0) c u))
    (fun c k => (V (Proc.devRef .tc main_arg4) : FVec Ideal S64x4x16 .f32) (ix3 (i 1) c k))
    ((V (Proc.devRef .tc main_arg5) : FVec Ideal S64 .f32) (ix1 (i 1)))

/-- The buffers as the launch leaves them. -/
abbrev launched (m : (ℓ : Loc nD τ sig) → Buf (Elt Ideal) ℓ) (c : Dev nD) : Valuation τ sig (Elt Ideal) :=
  Pipeline.withArrays (cfgs 0).spec c (V0 m c) fun w => (dats m 0 c).arrAt w (cfgs 0).N

/-- The launch leaves the weights, and so do the operations before it, which cut out the end points of the edges. -/
theorem weights_launched (m : (ℓ : Loc nD τ sig) → Buf (Elt Ideal) ℓ) (c : Dev nD) :
    weights (launched m c) = given (fun b => m (c, b)) := by
  unfold weights given weights
  congr 1 <;> refine (Pipeline.withArrays_of_ne _ c _ _ _ (by exact (by decide))).trans ?_ <;> after_reads_simp <;> rfl

/-- The rows of the reads that were given, out of those that the launch computes of the padded reads. -/
theorem rows_slice (X : FVec Ideal S10240x4x128 .f32) (W : FVec Ideal S64x64 .f32) (b : FVec Ideal S64 .f32)
    (X' : FVec Ideal S10000x4x128 .f32) (W' : FVec Ideal S64x4x16 .f32)
    (hX : ∀ (n : Fin 10000) (c : Fin 4) (u : Fin 128), X (ix3 (⟨n.val, by omega⟩ : Fin 10240) c u) = X' (ix3 n c u))
    (hW : ∀ (d : Fin 64) (c : Fin 4) (k : Fin 16),
      W (ix2 d (⟨16 * c.val + k.val, by omega⟩ : Fin 64)) = W' (ix3 d c k)) (i : S10000x64.Idx) :
    extractStridedSlice S10000x64 ![0, 0] (EmbedArray.rows X W b) slices_S10240x64_S10000x64_0_0 i
      = embed (fun c u => X' (ix3 (i 0) c u)) (fun c k => W' (ix3 (i 1) c k)) (b (ix1 (i 1))) := by
  idx_vars i
  have slice (Y : FVec Ideal S10240x64 .f32) : extractStridedSlice S10000x64 ![0, 0] Y slices_S10240x64_S10000x64_0_0
      (ix2 i0 i1) = Y (ix2 (⟨i0.val, by omega⟩ : Fin 10240) i1) := by pointwise
  rw [slice]
  show embed (fun c u => X (ix3 (⟨i0.val, by omega⟩ : Fin 10240) c u))
    (fun c k => W (ix2 i1 (⟨16 * c.val + k.val, by omega⟩ : Fin 64))) (b (ix1 i1)) = _
  simp only [hX, hW]

/-- The launch's output, among the buffers as the launch leaves them. -/
theorem launched_out (m : (ℓ : Loc nD τ sig) → Buf (Elt Ideal) ℓ) (c : Dev nD) :
    launched m c (Proc.devRef .tc main_v6) = (dats m 0 c).arrAt 3 (cfgs 0).N :=
  Pipeline.withArrays_arr (cfgs 0).spec (by decide) c (V0 m c) (fun w => (dats m 0 c).arrAt w (cfgs 0).N) 3

/-- The launch leaves the embedded reads, and rows of padding that the slice behind it drops. -/
theorem embedded_launched (m : (ℓ : Loc nD τ sig) → Buf (Elt Ideal) ℓ) (c : Dev nD) :
    embedded (launched m c) = reads (fun b => m (c, b)) := by
  have bias : V0 m c (Proc.devRef .tc main_arg5) = m (c, Proc.devRef .tc main_arg5) := V_main_arg5 m c
  unfold embedded reads
  rw [(launched_out m c).trans (EmbedArray.array m c), bias]
  exact funext fun i => rows_slice _ _ _ _ _ (EmbedArray.padded m c) (EmbedArray.reshaped m c) i

/-- After every run the program's result is the network of the embedded reads. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v372)
        = network (given fun b => m (c, b)) (reads fun b => m (c, b)) := by
  refine (θ_run defs _ _).mono (fun r h c => ?_) (run_main m ρ)
  refine ((h c).2 main_v372 (by decide +kernel)).trans ?_
  refine (tail_result (launched m c)).trans ?_
  rw [weights_launched, embedded_launched]

end Cert.KerRun

end
-- ==== Proof.RefNetwork.lean ====
/- What the reference computes behind its embedding: the network of the embedded nodes. -/
module

public import proofs.«01_k».proof.Proof.Network
public import proofs.«01_k».proof.Proof.Gen.ReferenceIdeal.Run

@[expose] public section

set_option maxRecDepth 16384

noncomputable section

namespace Cert.RefNetwork

open Idealize.ShloMosaic Idealize.ShloMosaic.StableHlo Cert.ReferenceIdeal Cert.ReferenceIdeal.Gen
open Cert.ReferenceIdeal.Value Cert.Network

variable {F : FTy → Type} [FloatOps F]

/-- The weights, out of the reference's arguments. -/
def weights (V : Valuation τ sig (Elt F)) : Weights F where
  src := sources (V (Proc.devRef .tc main_arg1))
  dst := targets (V (Proc.devRef .tc main_arg1))
  sim := V (Proc.devRef .tc main_arg2)
  encW := V (Proc.devRef .tc main_arg6)
  encB := V (Proc.devRef .tc main_arg7)
  srcW := V (Proc.devRef .tc main_arg8)
  srcB := V (Proc.devRef .tc main_arg9)
  dstW := V (Proc.devRef .tc main_arg10)
  dstB := V (Proc.devRef .tc main_arg11)
  edgeW := V (Proc.devRef .tc main_arg12)
  edgeB := V (Proc.devRef .tc main_arg13)
  selfW := V (Proc.devRef .tc main_arg14)
  selfB := V (Proc.devRef .tc main_arg15)
  msgW := V (Proc.devRef .tc main_arg16)
  msgB := V (Proc.devRef .tc main_arg17)
  hidW := V (Proc.devRef .tc main_arg18)
  hidB := V (Proc.devRef .tc main_arg19)
  outW := V (Proc.devRef .tc main_arg20)
  outB := V (Proc.devRef .tc main_arg21)

/-- The embedded nodes. -/
abbrev embedded (V : Valuation τ sig (Elt F)) : Nodes F := res_main_v107 V

/-- The encoded edges. -/
theorem edges0 (V : Valuation τ sig (Elt F)) : res_main_v112 V = encode (weights V) := rfl

/-- Layer 0's gate before its logistic function. -/
theorem preGate0 (V : Valuation τ sig (Elt F)) :
    res_main_v160 V = preGate (weights V) 0 (res_main_v107 V) (res_main_v112 V) := rfl

/-- Layer 1's. -/
theorem preGate1 (V : Valuation τ sig (Elt F)) :
    res_main_v244 V = preGate (weights V) 1 (res_main_v194 V) (res_main_v196 V) := rfl

/-- Layer 2's. -/
theorem preGate2 (V : Valuation τ sig (Elt F)) :
    res_main_v328 V = preGate (weights V) 2 (res_main_v278 V) (res_main_v280 V) := rfl

/-- Layer 3's. -/
theorem preGate3 (V : Valuation τ sig (Elt F)) :
    res_main_v412 V = preGate (weights V) 3 (res_main_v362 V) (res_main_v364 V) := rfl

/-- The gate of each layer. -/
theorem gates (V : Valuation τ sig (Elt F)) :
    res_main_v166 V = gate (res_main_v160 V) ∧ res_main_v250 V = gate (res_main_v244 V)
      ∧ res_main_v334 V = gate (res_main_v328 V) ∧ res_main_v418 V = gate (res_main_v412 V) :=
  ⟨rfl, rfl, rfl, rfl⟩

/-- The edges after each layer but the last. -/
theorem edges (V : Valuation τ sig (Elt F)) :
    res_main_v196 V = addf (res_main_v112 V) (edgeRelu (res_main_v160 V))
      ∧ res_main_v280 V = addf (res_main_v196 V) (edgeRelu (res_main_v244 V))
      ∧ res_main_v364 V = addf (res_main_v280 V) (edgeRelu (res_main_v328 V)) :=
  ⟨rfl, rfl, rfl⟩

/-- The nodes after layer 0. -/
theorem nodes1 (V : Valuation τ sig (Elt F)) :
    res_main_v194 V = addf (res_main_v107 V) (nodeRelu (preUpdate (weights V) 0 (res_main_v107 V) (res_main_v166 V))) := rfl

/-- The nodes after layer 1. -/
theorem nodes2 (V : Valuation τ sig (Elt F)) :
    res_main_v278 V = addf (res_main_v194 V) (nodeRelu (preUpdate (weights V) 1 (res_main_v194 V) (res_main_v250 V))) := rfl

/-- The nodes after layer 2. -/
theorem nodes3 (V : Valuation τ sig (Elt F)) :
    res_main_v362 V = addf (res_main_v278 V) (nodeRelu (preUpdate (weights V) 2 (res_main_v278 V) (res_main_v334 V))) := rfl

/-- The nodes after layer 3. -/
theorem nodes4 (V : Valuation τ sig (Elt F)) :
    res_main_v446 V = addf (res_main_v362 V) (nodeRelu (preUpdate (weights V) 3 (res_main_v362 V) (res_main_v418 V))) := rfl

/-- The reference's nodes before each layer are the network's. -/
theorem states (V : Valuation τ sig (Elt F)) :
    state (weights V) (embedded V) 3 = (res_main_v362 V, res_main_v364 V)
      ∧ state (weights V) (embedded V) 4
        = (res_main_v446 V, addf (res_main_v364 V) (edgeRelu (res_main_v412 V))) := by
  obtain ⟨g0, g1, g2, g3⟩ := gates V
  obtain ⟨e1, e2, e3⟩ := edges V
  have s0 : state (weights V) (embedded V) 0 = (res_main_v107 V, res_main_v112 V) := by
    rw [edges0]; rfl
  have s1 : state (weights V) (embedded V) 1 = (res_main_v194 V, res_main_v196 V) := by
    rw [state, s0, nodes1, e1, g0, preGate0]; rfl
  have s2 : state (weights V) (embedded V) 2 = (res_main_v278 V, res_main_v280 V) := by
    rw [state, s1, nodes2, e2, g1, preGate1]; rfl
  have s3 : state (weights V) (embedded V) 3 = (res_main_v362 V, res_main_v364 V) := by
    rw [state, s2, nodes3, e3, g2, preGate2]; rfl
  refine ⟨s3, ?_⟩
  rw [state, s3, nodes4, g3, preGate3]; rfl

set_option maxHeartbeats 1000000 in
/-- After every run the reference's result is the network of its embedded nodes. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v472)
        = network (weights (launchContents m c)) (embedded (launchContents m c)) := by
  refine (θ_run defs _ _).mono (fun r h c => ?_) (Value.run m ρ)
  refine (h c).1.trans ?_
  unfold network
  rw [(states (launchContents m c)).2]
  rfl

end Cert.RefNetwork

end
-- ==== Proof.RefEmbed.lean ====
/- The reference's embedding, entry by entry. -/
module

public import proofs.«01_k».proof.Proof.Gen.ReferenceIdeal.Run
public import proofs.«01_k».proof.Proof.Embedding
public import Idealize.ShloMosaic.Lib.Pointwise

@[expose] public section

set_option maxRecDepth 16384

noncomputable section

namespace Cert.RefEmbed

open Idealize.ShloMosaic Idealize.ShloMosaic.StableHlo Cert.ReferenceIdeal Cert.ReferenceIdeal.Gen
open Cert.ReferenceIdeal.Value Cert.Embedding

/-- What tap `k` of the filters gives at each position of each read. -/
theorem tap_apply (A : FVec Ideal S10000x4x128 .f32) (W : FVec Ideal S64x4x16 .f32) (k : Nat) (hk : k < 16)
    (h₁ : S64x4x16.Slices ![0, 0, k] S64x4x1) (h₂ : S64x4x1.ShapeCasts S64x4)
    (h₃ : S10000x4x128.Slices ![0, 0, k] S10000x4x113) (n : Fin 10000) (d : Fin 64) (t : Fin 113) :
    transpose S10000x64x113 [1, 0, 2] (Host.dotGeneral dot_S64x4_S10000x4x113_S64x10000x113_1_1_0_02_n_n none
        (shapeCast S64x4 (extractStridedSlice S64x4x1 ![0, 0, k] W h₁) h₂)
        (extractStridedSlice S10000x4x113 ![0, 0, k] A h₃)) transposes_S64x10000x113_S10000x64x113_1_0_2 (ix3 n d t)
      = ∑ c : Fin 4, W (ix3 d c ⟨k, hk⟩) * A (ix3 n c ⟨t.val + k, by omega⟩) := by
  pointwise
  exact Finset.sum_congr rfl fun c _ => congrArg (fun u => W (ix3 d c ⟨k, hk⟩) * A (ix3 n c u)) (Fin.ext (Nat.add_comm _ _))

/-- The divisor is 113. -/
theorem divisor : Ideal.ofBits .f32 0x42E20000#32 = ((113 : ℝ) : EReal) := by
  simp [Ideal.ofBits, Ideal.ieee, -EReal.coe_mul]
  norm_num

/-- The mean over the positions: a division by 113 is a product by its reciprocal. -/
theorem mean_apply (Y : FVec Ideal S10000x64x113 .f32) (n : Fin 10000) (d : Fin 64) :
    Host.divf (Host.reduceAdd Y (constant S_ .f32 0x00000000#32) reducesTo_S10000x64x113_S10000x64_d2 h_S_)
        (broadcastInDim S10000x64 ![] bcast_S_S10000x64 (constant S_ .f32 0x42E20000#32)) (ix2 n d)
      = (∑ t : Fin 113, Y (ix3 n d t)) * ((113⁻¹ : ℝ) : EReal) := by
  pointwise
  rw [divisor, Ideal.div_coe (by norm_num), one_div]

/-- The bias added and the positive part taken. -/
theorem relu_apply (Y : FVec Ideal S10000x64x113 .f32) (b : FVec Ideal S64 .f32) (n : Fin 10000) (d : Fin 64) (t : Fin 113) :
    maximumf (addf Y (broadcastInDim S10000x64x113 ![0, 1, 2] bcast_S1x64x1_S10000x64x113_0_1_2
        (broadcastInDim S1x64x1 ![1] bcast_S64_S1x64x1_1 b)))
      (broadcastInDim S10000x64x113 ![] bcast_S_S10000x64x113 (constant S_ .f32 0x00000000#32)) (ix3 n d t)
      = max (Y (ix3 n d t) + b (ix1 d)) 0 := by
  pointwise

/-- The sum of the taps starts from zero. -/
theorem start_apply (i : S10000x64x113.Idx) :
    broadcastInDim (α := Ideal .f32) S10000x64x113 ![] bcast_S_S10000x64x113 (constant S_ .f32 0x00000000#32) i = 0 := by
  pointwise

/-- A sum of arrays, at an entry. -/
theorem add_apply (X Y : FVec Ideal S10000x64x113 .f32) (i : S10000x64x113.Idx) : addf X Y i = X i + Y i := rfl

/-- The embedding. -/
theorem embedded_apply (V : Valuation τ sig (Elt Ideal)) (n : Fin 10000) (d : Fin 64) :
    res_main_v107 V (ix2 n d) = embed (fun c u => V (Proc.devRef .tc main_arg0) (ix3 n c u))
      (fun c k => V (Proc.devRef .tc main_arg4) (ix3 d c k)) (V (Proc.devRef .tc main_arg5) (ix1 d)) := by
  unfold res_main_v107 res_main_v64
  refine (mean_apply _ n d).trans (congrArg (· * ((113⁻¹ : ℝ) : EReal)) (Finset.sum_congr rfl fun t _ => ?_))
  refine (relu_apply _ _ n d t).trans (congrArg (fun z => max (z + _) 0) ?_)
  rw [Finset.sum_comm, sum_16]
  repeat
    refine (add_apply _ _ _).trans (congrArg₂ (· + ·) ?_ (tap_apply _ _ _ (by decide) _ _ _ n d t))
  exact start_apply _

end Cert.RefEmbed

end
-- ==== Proof.Agree.lean ====
/- The reference's network and the kernel's, of equal arguments, are one. -/
module

public import proofs.«01_k».proof.Proof.KerRun
public import proofs.«01_k».proof.Proof.RefNetwork
public import proofs.«01_k».proof.Proof.RefEmbed

@[expose] public section

set_option maxRecDepth 16384

noncomputable section

namespace Cert.Agree

open Idealize.ShloMosaic Idealize.ShloMosaic.StableHlo Cert.Network

variable (V : Valuation KernelIdeal.τ KernelIdeal.sig (Elt Ideal)) (V' : Valuation ReferenceIdeal.τ ReferenceIdeal.sig (Elt Ideal))

/-- Of the same reads, filters and biases the reference embeds the nodes as the kernel does. -/
theorem nodes
    (h0 : V' (Proc.devRef .tc ReferenceIdeal.main_arg0) = V (Proc.devRef .tc KernelIdeal.main_arg0))
    (h4 : V' (Proc.devRef .tc ReferenceIdeal.main_arg4) = V (Proc.devRef .tc KernelIdeal.main_arg4))
    (h5 : V' (Proc.devRef .tc ReferenceIdeal.main_arg5) = V (Proc.devRef .tc KernelIdeal.main_arg5)) :
    RefNetwork.embedded V' = KerRun.reads V := by
  funext i
  idx_vars i
  refine (RefEmbed.embedded_apply V' i0 i1).trans ?_
  rw [h0, h4, h5]
  rfl

/-- Of the same arguments both networks are the same. -/
theorem networks
    (h0 : V' (Proc.devRef .tc ReferenceIdeal.main_arg0) = V (Proc.devRef .tc KernelIdeal.main_arg0))
    (h1 : V' (Proc.devRef .tc ReferenceIdeal.main_arg1) = V (Proc.devRef .tc KernelIdeal.main_arg1))
    (h2 : V' (Proc.devRef .tc ReferenceIdeal.main_arg2) = V (Proc.devRef .tc KernelIdeal.main_arg2))
    (h4 : V' (Proc.devRef .tc ReferenceIdeal.main_arg4) = V (Proc.devRef .tc KernelIdeal.main_arg4))
    (h5 : V' (Proc.devRef .tc ReferenceIdeal.main_arg5) = V (Proc.devRef .tc KernelIdeal.main_arg5))
    (h6 : V' (Proc.devRef .tc ReferenceIdeal.main_arg6) = V (Proc.devRef .tc KernelIdeal.main_arg6))
    (h7 : V' (Proc.devRef .tc ReferenceIdeal.main_arg7) = V (Proc.devRef .tc KernelIdeal.main_arg7))
    (h8 : V' (Proc.devRef .tc ReferenceIdeal.main_arg8) = V (Proc.devRef .tc KernelIdeal.main_arg8))
    (h9 : V' (Proc.devRef .tc ReferenceIdeal.main_arg9) = V (Proc.devRef .tc KernelIdeal.main_arg9))
    (h10 : V' (Proc.devRef .tc ReferenceIdeal.main_arg10) = V (Proc.devRef .tc KernelIdeal.main_arg10))
    (h11 : V' (Proc.devRef .tc ReferenceIdeal.main_arg11) = V (Proc.devRef .tc KernelIdeal.main_arg11))
    (h12 : V' (Proc.devRef .tc ReferenceIdeal.main_arg12) = V (Proc.devRef .tc KernelIdeal.main_arg12))
    (h13 : V' (Proc.devRef .tc ReferenceIdeal.main_arg13) = V (Proc.devRef .tc KernelIdeal.main_arg13))
    (h14 : V' (Proc.devRef .tc ReferenceIdeal.main_arg14) = V (Proc.devRef .tc KernelIdeal.main_arg14))
    (h15 : V' (Proc.devRef .tc ReferenceIdeal.main_arg15) = V (Proc.devRef .tc KernelIdeal.main_arg15))
    (h16 : V' (Proc.devRef .tc ReferenceIdeal.main_arg16) = V (Proc.devRef .tc KernelIdeal.main_arg16))
    (h17 : V' (Proc.devRef .tc ReferenceIdeal.main_arg17) = V (Proc.devRef .tc KernelIdeal.main_arg17))
    (h18 : V' (Proc.devRef .tc ReferenceIdeal.main_arg18) = V (Proc.devRef .tc KernelIdeal.main_arg18))
    (h19 : V' (Proc.devRef .tc ReferenceIdeal.main_arg19) = V (Proc.devRef .tc KernelIdeal.main_arg19))
    (h20 : V' (Proc.devRef .tc ReferenceIdeal.main_arg20) = V (Proc.devRef .tc KernelIdeal.main_arg20))
    (h21 : V' (Proc.devRef .tc ReferenceIdeal.main_arg21) = V (Proc.devRef .tc KernelIdeal.main_arg21)) :
    network (RefNetwork.weights V') (RefNetwork.embedded V') = network (KerRun.given V) (KerRun.reads V) := by
  have w : RefNetwork.weights V' = KerRun.given V := by
    unfold RefNetwork.weights KerRun.given KerNetwork.weights
    simp only [h1, h2, h6, h7, h8, h9, h10, h11, h12, h13, h14, h15, h16, h17, h18, h19, h20, h21]
  rw [w, nodes V V' h0 h4 h5]

end Cert.Agree

end
-- ==== Proof.lean ====
/- The proof of the certificate: the kernel and the reference change nothing they were given and leave no semaphore
   raised; the kernel's ideal form is the kernel with its literal for the mean named; and over the extended reals the
   kernel's result is the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init
public import Idealize.ShloMosaic.Lib.Claim
public import proofs.«01_k».proof.Proof.Agree

@[expose] public section

noncomputable section

namespace Cert.Proof

open Idealize.ShloMosaic Idealize.SL.Sem Cert.Kernel

/-- The reference leaves its arguments as they were, and every counter at zero. -/
theorem reference : Cert.quiescent_ReferenceIdeal (hReferenceIdeal := Cert.ReferenceIdeal.Gen.facts) := by
  intro m g _
  refine (θ_run _ _ _).mono (fun r h => ⟨fun c => (h c).2, ?_⟩) (Cert.ReferenceIdeal.Value.run m g)
  exact sem_eq_zero_of_no_sems (by decide) r.2

/-- Over the extended reals the kernel's result is the reference's. -/
theorem equal : Cert.algebraic_KernelIdeal_ReferenceIdeal (hKernelIdeal := Cert.KernelIdeal.Gen.facts)
    (hReferenceIdeal := Cert.ReferenceIdeal.Gen.facts) := by
  intro m g m' g' _ hagree
  refine ⟨_, (θ_run _ _ _).mono (fun r h c => ⟨h.1 c, h.2 c⟩)
      (θ_run_and (Cert.KerRun.run m g) (Cert.KernelIdeal.Gen.unchanged m g)),
    (θ_run _ _ _).mono (fun r h c => ⟨(h.1 c).trans ?_, (h.2 c).2⟩)
      (θ_run_and (Cert.RefNetwork.run m' g') (Cert.ReferenceIdeal.Value.run m' g'))⟩
  obtain ⟨h0, h1, h2, h3, h4, h5, h6, h7, h8, h9, h10, h11, h12, h13, h14, h15, h16, h17, h18, h19, h20, h21⟩ := hagree c
  exact Cert.Agree.networks _ _ h0 h1 h2 h4 h5 h6 h7 h8 h9 h10 h11 h12 h13 h14 h15 h16 h17 h18 h19 h20 h21

/-- The certificate's claim. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, reference,
  IdealRules.named_const.statement Cert.KernelIdeal.κ "mean" .f32 0x3C10FDBC#32 ((113⁻¹ : ℝ) : EReal) rfl, equal⟩

end Cert.Proof

end
